-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S256x2048 : Shape := ⟨2, ![256, 2048]⟩
abbrev S256x8 : Shape := ⟨2, ![256, 8]⟩
abbrev S256x1 : Shape := ⟨2, ![256, 1]⟩

class Facts : Prop where
  slices_S256x2048_S256x8_0_0 : S256x2048.Slices ![0, 0] S256x8
  slices_S256x8_S256x1_0_0 : S256x8.Slices ![0, 0] S256x1
  slices_S256x8_S256x1_0_1 : S256x8.Slices ![0, 1] S256x1
  slices_S256x8_S256x1_0_2 : S256x8.Slices ![0, 2] S256x1
  slices_S256x8_S256x1_0_3 : S256x8.Slices ![0, 3] S256x1
  slices_S256x8_S256x1_0_4 : S256x8.Slices ![0, 4] S256x1
  slices_S256x8_S256x1_0_5 : S256x8.Slices ![0, 5] S256x1
  slices_S256x8_S256x1_0_6 : S256x8.Slices ![0, 6] S256x1
  slices_S256x8_S256x1_0_7 : S256x8.Slices ![0, 7] S256x1
  concatenates_S256x1_S256x1_S256x1_S256x1_S256x1_S256x1_S256x1_S256x1_S256x8_d1 : Shape.Concatenates [S256x1, S256x1, S256x1, S256x1, S256x1, S256x1, S256x1, S256x1] S256x8 1

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S256x2048 .f32) : FVec F S256x2048 .f32 :=
  let v0 : FVec F S256x2048 .f32 := (fun x => Host.sort S256x2048 1 comparator_f32_d1 x) arg0
  v0

def fn_part1 {F : FTy → Type} [FloatOps F] (main_v3 : FVec F S256x8 .f32) (main_v6 : IVec S256x1 1) (main_v10 : IVec S256x1 1) (main_v14 : IVec S256x1 1) (main_v18 : IVec S256x1 1) (main_v22 : IVec S256x1 1) (main_v23 : FVec F S256x1 .f32) : IVec S256x8 1 :=
  let main_v24 : FVec F S256x1 .f32 := (extractStridedSlice S256x1 ![0, 4] · slices_S256x8_S256x1_0_4) main_v3
  let main_v25 : IVec S256x1 1 := cmpf .olt main_v23 main_v24
  let main_v26 : IVec S256x1 1 := andi main_v22 main_v25
  let main_v27 : FVec F S256x1 .f32 := (extractStridedSlice S256x1 ![0, 6] · slices_S256x8_S256x1_0_6) main_v3
  let main_v28 : FVec F S256x1 .f32 := (extractStridedSlice S256x1 ![0, 5] · slices_S256x8_S256x1_0_5) main_v3
  let main_v29 : IVec S256x1 1 := cmpf .olt main_v27 main_v28
  let main_v30 : IVec S256x1 1 := andi main_v26 main_v29
  let main_v31 : FVec F S256x1 .f32 := (extractStridedSlice S256x1 ![0, 7] · slices_S256x8_S256x1_0_7) main_v3
  let main_v32 : FVec F S256x1 .f32 := (extractStridedSlice S256x1 ![0, 6] · slices_S256x8_S256x1_0_6) main_v3
  let main_v33 : IVec S256x1 1 := cmpf .olt main_v31 main_v32
  let main_v34 : IVec S256x1 1 := andi main_v30 main_v33
  let main_v35 : IVec S256x8 1 := concatenate S256x8 1 [⟨S256x1, main_v6⟩, ⟨S256x1, main_v10⟩, ⟨S256x1, main_v14⟩, ⟨S256x1, main_v18⟩, ⟨S256x1, main_v22⟩, ⟨S256x1, main_v26⟩, ⟨S256x1, main_v30⟩, ⟨S256x1, main_v34⟩] concatenates_S256x1_S256x1_S256x1_S256x1_S256x1_S256x1_S256x1_S256x1_S256x8_d1
  main_v35

def fn {F : FTy → Type} [FloatOps F] (main_arg0 : FVec F S256x2048 .f32) : IVec S256x8 1 :=
  let main_v0 : FVec F S256x2048 .f32 := Host.negf main_arg0
  let main_v1 : FVec F S256x2048 .f32 := fn_sort (F := F) main_v0
  let main_v2 : FVec F S256x8 .f32 := (extractStridedSlice S256x8 ![0, 0] · slices_S256x2048_S256x8_0_0) main_v1
  let main_v3 : FVec F S256x8 .f32 := Host.negf main_v2
  let main_v4 : FVec F S256x1 .f32 := (extractStridedSlice S256x1 ![0, 0] · slices_S256x8_S256x1_0_0) main_v3
  let main_v5 : FVec F S256x1 .f32 := (extractStridedSlice S256x1 ![0, 0] · slices_S256x8_S256x1_0_0) main_v3
  let main_v6 : IVec S256x1 1 := cmpf .oeq main_v4 main_v5
  let main_v7 : FVec F S256x1 .f32 := (extractStridedSlice S256x1 ![0, 1] · slices_S256x8_S256x1_0_1) main_v3
  let main_v8 : FVec F S256x1 .f32 := (extractStridedSlice S256x1 ![0, 0] · slices_S256x8_S256x1_0_0) main_v3
  let main_v9 : IVec S256x1 1 := cmpf .olt main_v7 main_v8
  let main_v10 : IVec S256x1 1 := andi main_v6 main_v9
  let main_v11 : FVec F S256x1 .f32 := (extractStridedSlice S256x1 ![0, 2] · slices_S256x8_S256x1_0_2) main_v3
  let main_v12 : FVec F S256x1 .f32 := (extractStridedSlice S256x1 ![0, 1] · slices_S256x8_S256x1_0_1) main_v3
  let main_v13 : IVec S256x1 1 := cmpf .olt main_v11 main_v12
  let main_v14 : IVec S256x1 1 := andi main_v10 main_v13
  let main_v15 : FVec F S256x1 .f32 := (extractStridedSlice S256x1 ![0, 3] · slices_S256x8_S256x1_0_3) main_v3
  let main_v16 : FVec F S256x1 .f32 := (extractStridedSlice S256x1 ![0, 2] · slices_S256x8_S256x1_0_2) main_v3
  let main_v17 : IVec S256x1 1 := cmpf .olt main_v15 main_v16
  let main_v18 : IVec S256x1 1 := andi main_v14 main_v17
  let main_v19 : FVec F S256x1 .f32 := (extractStridedSlice S256x1 ![0, 4] · slices_S256x8_S256x1_0_4) main_v3
  let main_v20 : FVec F S256x1 .f32 := (extractStridedSlice S256x1 ![0, 3] · slices_S256x8_S256x1_0_3) main_v3
  let main_v21 : IVec S256x1 1 := cmpf .olt main_v19 main_v20
  let main_v22 : IVec S256x1 1 := andi main_v18 main_v21
  let main_v23 : FVec F S256x1 .f32 := (extractStridedSlice S256x1 ![0, 5] · slices_S256x8_S256x1_0_5) main_v3
  fn_part1 (F := F) main_v3 main_v6 main_v10 main_v14 main_v18 main_v22 main_v23
-- ==== Kernel.lean ====
abbrev S256x1024 : Shape := ⟨2, ![256, 1024]⟩
abbrev S256x8 : Shape := ⟨2, ![256, 8]⟩
abbrev S2x256x8 : Shape := ⟨3, ![2, 256, 8]⟩
abbrev S_ : Shape := ⟨0, ![]⟩
abbrev S256 : Shape := ⟨1, ![256]⟩
abbrev S256x1 : Shape := ⟨2, ![256, 1]⟩
abbrev S1x256x8 : Shape := ⟨3, ![1, 256, 8]⟩
abbrev S256x16 : Shape := ⟨2, ![256, 16]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S2x256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v62 : BitVec 32 := Scalar.muli v6 c2_i32_27
  let v63 : BitVec 32 := Scalar.addi c0_i32_28 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v64 : BitVec 32 := Scalar.muli v5 c1_i32_29
  let v65 : BitVec 32 := Scalar.addi v63 v64
  v65.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .i32⟩
  | .hbm, ⟨3, _⟩ => ⟨S256x2048, .f32⟩
  | .hbm, ⟨4, _⟩ => ⟨S256x2048, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Protocol.lean ====
/-
The exchange between the two devices of a pair, written down as a schedule.

The mesh is two by two; a device's PEER is the device with the other first coordinate and the same second one. Each
device selects the eight candidates of every row of its own half of the columns into slab 0 of its candidate buffer,
sends that slab to slab 1 of its peer's, and selects the eight of the row again from the two slabs.

Three semaphores of every device take part, each for one round and one duty:

* the BARRIER semaphore, one unit, paid by the peer's entry signal. With it comes the peer's slab 1, at whatever it
  holds, and the word that the peer's receive semaphore is still at its first round: all the sender needs.
* the SEND semaphore, the credit of a slab, paid by the device's own transfer when it departs. With it comes the device's
  slab 0 back, unchanged.
* the RECEIVE semaphore, the credit of a slab, paid by the peer's transfer when it lands. With it comes the device's slab
  1, holding the peer's candidates.

A device waits for its barrier owing only the transfer, so barriers lie below receive semaphores in the order of waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.ValueIdxCore
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the staging pipeline's rounds beside the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The state at launch: any memory, every semaphore at zero, any generator registers. -/
def init : MemSt nD τ sig (Elt F) := ⟨m, fun _ => 0, ρ⟩

/-! ## The peer -/

set_option backward.proofsInPublic true in
/-- The device with the other first mesh coordinate. -/
def peer (c : Dev nD) : Dev nD := ⟨(c.val + 2) % 4, Nat.mod_lt _ (by decide)⟩

theorem peer_peer (c : Dev nD) : peer (peer c) = c := by revert c; decide

/-- The peer as a permutation of the devices. -/
def peers : Dev nD ≃ Dev nD := ⟨peer, peer, peer_peer, peer_peer⟩

/-- The signal is addressed to the peer, -/
theorem dev1_eq (c : Dev nD) : (⟨k0_dev1 c, k0_dev1_lt c⟩ : Dev nD) = peer c := by
  refine Fin.ext ((k0_dev1_eq c).trans ?_); revert c; decide
/-- and so is the transfer. -/
theorem dev2_eq (c : Dev nD) : (⟨k0_dev2 c, k0_dev2_lt c⟩ : Dev nD) = peer c := by
  refine Fin.ext ((k0_dev2_eq c).trans ?_); revert c; decide

/-! ## Buffers and semaphores -/

abbrev xM : Memref sig .tc .vmem S256x1024 .f32 := Memref.whole cc0_stg0_0
abbrev oM : Memref sig .tc .vmem S256x8 .f32 := Memref.whole cc0_stg1_0
abbrev cM : Memref sig .tc .vmem S2x256x8 .f32 := Memref.whole cc0_scratch0

/-- The rectangles of the two slabs in the candidate buffer, -/
abbrev rect0 : Rect S2x256x8 := Rect.unit (s := S2x256x8) ![0, 0, 0] S1x256x8.size inb_S2x256x8_S1x256x8_0_0_0
abbrev rect1 : Rect S2x256x8 := Rect.unit (s := S2x256x8) ![1, 0, 0] S1x256x8.size inb_S2x256x8_S1x256x8_1_0_0
/-- and the slabs themselves, as the transfer names them. -/
abbrev slab0 : Memref sig .tc .vmem S256x8 .f32 := (cM.slice rect0 (fun _ => rfl)).squeeze S256x8 squeezes_S1x256x8_S256x8
abbrev slab1 : Memref sig .tc .vmem S256x8 .f32 := (cM.slice rect1 (fun _ => rfl)).squeeze S256x8 squeezes_S1x256x8_S256x8

abbrev barS : Sem sig := (SemArray.scalar (sig.barrier 0 rfl) : Sems sig S_).sem
abbrev sendS : DmaSem sig := cc0_scratch1.sem
abbrev recvS : DmaSem sig := cc0_scratch2.sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- The two semaphores the launch allocates for the kernel. -/
abbrev ownSem : Fin 2 → SemLoc sig := fun | 0 => .dma sendS | 1 => .dma recvS
/-- The three semaphores of a device in the exchange: barrier, send, receive. -/
abbrev role : Fin 3 → SemLoc sig := fun | 0 => .reg barS | 1 => .dma sendS | 2 => .dma recvS
abbrev cell (ck : Dev nD × Fin 3) : GSem nD τ sig := ((ck.1 : Thread nD τ), role ck.2)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

/-- The credit of one slab. -/
abbrev N : ℕ := (slab1 : Memref sig .tc .vmem S256x8 .f32).view.dmaCredit
theorem N_pos : 0 < N := View.dmaCredit_pos _ (by decide)

/-! ## Contents -/

/-- The block of columns device `c` reads. -/
def block (c : Dev nD) : (cc0_stg0_0 : Ref sig .tc).ty.Contents (Elt F) :=
  (win0_0.blk (0 : Fin 1)).view.read (Elt F) ((init m ρ).mem ((c : Thread nD τ).loc main_arg0))

/-- The candidates the kernel selects from a block, eight in a row, as it stores them. -/
def pick (x : Vec F S256x1024 .f32) : FVec F S1x256x8 .f32 :=
  k0_pay8 (k0_pay2 x) (k0_pay3 x) (k0_pay4 x) (k0_pay5 x) (k0_pay6 x) (k0_pay7 x)

/-- What the kernel selects from two slabs of candidates. -/
def merge (a b : Vec F S1x256x8 .f32) : FVec F S256x8 .f32 :=
  k0_pay1 (k0_pay9 a b) (k0_pay10 a b) (k0_pay11 a b) (k0_pay12 a b) (k0_pay13 a b)

/-- Device `c`'s candidate buffer after the exchange: its own candidates in slab 0, its peer's in slab 1. -/
def cands (c : Dev nD) : Buf (Elt F) ((c : Thread nD τ).loc cc0_scratch0) :=
  fun i : S2x256x8.Idx => pick (block m ρ (if (i 0).val = 0 then c else peer c)) (ValueIdx.ix3 (0 : Fin 1) (i 1) (i 2))

/-- Device `c`'s result. -/
def result (c : Dev nD) : (cc0_stg1_0 : Ref sig .tc).ty.Contents (Elt F) :=
  merge (pick (block m ρ c)) (pick (block m ρ (peer c)))

omit [FloatOps F] in
/-- A position of slab 0 in the candidate buffer has first coordinate 0 and the other two its own; -/
theorem emb0 (y : S1x256x8.Idx) : rect0.emb y = (ValueIdx.ix3 (0 : Fin 2) (y 1) (y 2) : S2x256x8.Idx) := by
  funext a
  match a with
  | ⟨0, _⟩ => exact Fin.ext (show 0 + 1 * (y 0).val = 0 by have : (y 0).val < 1 := (y 0).isLt; omega)
  | ⟨1, _⟩ => exact Fin.ext (show 0 + 1 * (y 1).val = (y 1).val by omega)
  | ⟨2, _⟩ => exact Fin.ext (show 0 + 1 * (y 2).val = (y 2).val by omega)

omit [FloatOps F] in
/-- one of slab 1 first coordinate 1. -/
theorem emb1 (y : S1x256x8.Idx) : rect1.emb y = (ValueIdx.ix3 (1 : Fin 2) (y 1) (y 2) : S2x256x8.Idx) := by
  funext a
  match a with
  | ⟨0, _⟩ => exact Fin.ext (show 1 + 1 * (y 0).val = 1 by have : (y 0).val < 1 := (y 0).isLt; omega)
  | ⟨1, _⟩ => exact Fin.ext (show 0 + 1 * (y 1).val = (y 1).val by omega)
  | ⟨2, _⟩ => exact Fin.ext (show 0 + 1 * (y 2).val = (y 2).val by omega)

theorem ix3_slab (y : S1x256x8.Idx) : (ValueIdx.ix3 (0 : Fin 1) (y 1) (y 2) : S1x256x8.Idx) = y := by
  funext a
  match a with
  | ⟨0, _⟩ => exact Fin.ext (show 0 = (y 0).val by have : (y 0).val < 1 := (y 0).isLt; omega)
  | ⟨1, _⟩ => rfl
  | ⟨2, _⟩ => rfl

/-- Slab 0 of the buffer after the exchange is the device's own candidates, -/
theorem cands_emb0 (c : Dev nD) (y : S1x256x8.Idx) : cands m ρ c (rect0.emb y) = pick (block m ρ c) y := by
  rw [emb0]; show pick (block m ρ (if (0 : ℕ) = 0 then c else peer c)) (ValueIdx.ix3 (0 : Fin 1) (y 1) (y 2)) = _
  rw [if_pos rfl, ix3_slab]
/-- slab 1 the peer's. -/
theorem cands_emb1 (c : Dev nD) (y : S1x256x8.Idx) : cands m ρ c (rect1.emb y) = pick (block m ρ (peer c)) y := by
  rw [emb1]; show pick (block m ρ (if (1 : ℕ) = 0 then c else peer c)) (ValueIdx.ix3 (0 : Fin 1) (y 1) (y 2)) = _
  rw [if_neg Nat.one_ne_zero, ix3_slab]

/-- What a load of slab 0 reads after the exchange, -/
theorem read0 (c : Dev nD) : (cM : Memref sig .tc .vmem S2x256x8 .f32).view.readAt (Elt F) rect0.toLoadRect (cands m ρ c) = pick (block m ρ c) :=
  funext fun y => cands_emb0 m ρ c y
/-- and a load of slab 1. -/
theorem read1 (c : Dev nD) : (cM : Memref sig .tc .vmem S2x256x8 .f32).view.readAt (Elt F) rect1.toLoadRect (cands m ρ c) = pick (block m ρ (peer c)) :=
  funext fun y => cands_emb1 m ρ c y

omit [FloatOps F] in
/-- The positions of the slabs: those of their rectangles. -/
theorem set0 : (slab0 : Memref sig .tc .vmem S256x8 .f32).view.set = rect0.set :=
  (View.set_reshape _ _).trans (View.set_slice_whole _ _)
omit [FloatOps F] in
theorem set1 : (slab1 : Memref sig .tc .vmem S256x8 .f32).view.set = rect1.set :=
  (View.set_reshape _ _).trans (View.set_slice_whole _ _)

omit [FloatOps F] in
/-- No position is in both slabs, -/
theorem slabs_disjoint : Disjoint (rect0 : Rect S2x256x8).set rect1.set := by
  rw [Finset.disjoint_left]
  intro i h0 h1
  rw [← Rect.map_emb_univ] at h0 h1
  obtain ⟨y, -, rfl⟩ := Finset.mem_map.mp h0
  obtain ⟨z, -, h⟩ := Finset.mem_map.mp h1
  rw [emb0, emb1] at h
  exact Nat.one_ne_zero (congrArg Fin.val (congrFun h (0 : Fin 3)))
omit [FloatOps F] in
/-- and every position is in one. -/
theorem slabs_cover : (rect0 : Rect S2x256x8).set ∪ rect1.set = Finset.univ := by
  refine Finset.eq_univ_of_forall fun i => ?_
  rw [Finset.mem_union, ← Rect.map_emb_univ, ← Rect.map_emb_univ, Finset.mem_map, Finset.mem_map]
  have hi (k : Fin 2) (h : (i 0).val = k.val) : (ValueIdx.ix3 k (i 1) (i 2) : S2x256x8.Idx) = i := by
    funext a
    match a with
    | ⟨0, _⟩ => exact Fin.ext h.symm
    | ⟨1, _⟩ => rfl
    | ⟨2, _⟩ => rfl
  by_cases h : (i 0).val = 0
  · exact .inl ⟨ValueIdx.ix3 (0 : Fin 1) (i 1) (i 2), Finset.mem_univ _, (emb0 _).trans (hi 0 h)⟩
  · exact .inr ⟨ValueIdx.ix3 (0 : Fin 1) (i 1) (i 2), Finset.mem_univ _,
      (emb1 _).trans (hi 1 (by have : (i 0).val < 2 := (i 0).isLt; show (i 0).val = 1; omega))⟩

/-- Device `c`'s slab 0 at the contents `f`, -/
def own0 (c : Dev nD) (f : Buf (Elt F) ((c : Thread nD τ).loc cc0_scratch0)) : sProp 𝕄 :=
  (slab0 : Memref sig .tc .vmem S256x8 .f32).view.loc (c : Thread nD τ) ↦[(slab0 : Memref sig .tc .vmem S256x8 .f32).view.set]{fullShare} f
/-- and its slab 1. -/
def own1 (c : Dev nD) (f : Buf (Elt F) ((c : Thread nD τ).loc cc0_scratch0)) : sProp 𝕄 :=
  (slab1 : Memref sig .tc .vmem S256x8 .f32).view.loc (c : Thread nD τ) ↦[(slab1 : Memref sig .tc .vmem S256x8 .f32).view.set]{fullShare} f

omit [FloatOps F] in
instance own0_storable (c : Dev nD) (f) : BI.Storable (upEmb : UEmb _ 𝕄) (own0 (F := F) c f) := by unfold own0; infer_instance
omit [FloatOps F] in
instance own1_storable (c : Dev nD) (f) : BI.Storable (upEmb : UEmb _ 𝕄) (own1 (F := F) c f) := by unfold own1; infer_instance

omit [FloatOps F] in
/-- The whole candidate buffer is its two slabs. -/
theorem slabs_eq (c : Dev nD) (f : Buf (Elt F) ((c : Thread nD τ).loc cc0_scratch0)) :
    (((c : Thread nD τ).loc cc0_scratch0) ↦{fullShare} f : sProp 𝕄) ⊣⊢ iprop(own0 c f ∗ own1 c f) := by
  unfold own0 own1; rw [set0, set1]
  have h := pointsTo_union (q := fullShare) (f := f) (Ix := Unit) (Name := ℕ) (U := UU) (Lvl := ℕ) (ℓ := (c : Thread nD τ).loc cc0_scratch0) slabs_disjoint
  rw [slabs_cover] at h
  exact h

/-- Storing the candidates into slab 0 leaves it as it is after the exchange. -/
theorem stored (c : Dev nD) (f : Buf (Elt F) ((c : Thread nD τ).loc cc0_scratch0)) :
    ((cM.access rect0 : View sig .tc _ _ _).loc (c : Thread nD τ) ↦[(slab0 : Memref sig .tc .vmem S256x8 .f32).view.set]{fullShare}
        (cM.access rect0 : View sig .tc _ _ _).write (Elt F) f
          (k0_pay8 (k0_pay2 (block m ρ c)) (k0_pay3 (block m ρ c)) (k0_pay4 (block m ρ c)) (k0_pay5 (block m ρ c)) (k0_pay6 (block m ρ c))
            (k0_pay7 (block m ρ c))) Finset.univ : sProp 𝕄) = own0 c (cands m ρ c) := by
  unfold own0
  refine pointsTo_congr fun i hi => ?_
  rw [set0, ← Rect.map_emb_univ] at hi
  obtain ⟨y, -, rfl⟩ := Finset.mem_map.mp hi
  refine Eq.trans ?_ (cands_emb0 m ρ c y).symm
  exact View.write_emb_of_mem (v := (cM.access rect0 : View sig .tc _ _ _)) f (pick (block m ρ c)) (Finset.mem_univ y)

/-- A transfer of slab 0 into the peer's slab 1 leaves that as it is after the exchange. -/
theorem landed (c : Dev nD) (f : Buf (Elt F) ((peer c : Thread nD τ).loc cc0_scratch0)) :
    ((slab1 : Memref sig .tc .vmem S256x8 .f32).view.loc (peer c : Thread nD τ) ↦[(slab1 : Memref sig .tc .vmem S256x8 .f32).view.set]{fullShare}
        (slab1 : Memref sig .tc .vmem S256x8 .f32).view.write (Elt F) f
          ((slab0 : Memref sig .tc .vmem S256x8 .f32).view.read (Elt F) (cands m ρ c)) Finset.univ : sProp 𝕄)
      = own1 (peer c) (cands m ρ (peer c)) := by
  unfold own1
  refine pointsTo_congr fun i hi => ?_
  obtain ⟨x, -, rfl⟩ := Finset.mem_map.mp hi
  refine (View.write_emb_of_mem (v := (slab1 : Memref sig .tc .vmem S256x8 .f32).view) f _ (Finset.mem_univ x)).trans ?_
  refine (cands_emb0 m ρ c _).trans (Eq.trans ?_ (cands_emb1 m ρ (peer c) _).symm)
  rw [peer_peer]

/-! ## The schedule -/

/-- What the peer's entry signal hands a device: the peer's slab 1 to write to, and that its receive semaphore is at round 0. -/
def barPay (c : Dev nD) : sProp 𝕄 := iprop((∃ f, own1 (peer c) f) ∗ reached ER (recvCell (peer c)) 0)

/-- A semaphore of a TensorCore that takes part in the exchange. -/
abbrev Takes (g : GSem nD τ sig) : Prop := g.1.2 = .tc ∧ (g.2 = .reg barS ∨ g.2 = .dma sendS ∨ g.2 = .dma recvS)

/-- One round, of one duty for each semaphore of the exchange. -/
def sched : Rounds.Schedule (GSem nD τ sig) Unit 𝕄 where
  duties g r := if r = 0 ∧ Takes g then {()} else ∅
  unitless _ := False
  amount g _ _ := if g.2 = .reg barS then 1 else N
  payload g _ _ :=
    if g.2 = .reg barS then barPay g.1.1
    else if g.2 = .dma sendS then own0 g.1.1 (cands m ρ g.1.1)
    else if g.2 = .dma recvS then own1 g.1.1 (cands m ρ g.1.1)
    else iprop(emp)
  amount_pos g _ _ _ := by
    by_cases h : g.2 = .reg barS
    · rw [if_pos h]; exact Nat.one_pos
    · rw [if_neg h]; exact N_pos

instance payload_storable (g : GSem nD τ sig) (r : ℕ) (d : Unit) :
    BI.Storable (upEmb : UEmb _ 𝕄) ((sched (F := F) m ρ).payload g r d) := by
  dsimp only [sched]; unfold barPay
  (repeat' split) <;> infer_instance

theorem takes (c : Dev nD) (k : Fin 3) : Takes (cell (c, k)) :=
  ⟨rfl, by fin_cases k <;> [exact .inl rfl; exact .inr (.inl rfl); exact .inr (.inr rfl)]⟩

theorem duties_now (c : Dev nD) (k : Fin 3) : (sched (F := F) m ρ).duties (cell (c, k)) 0 = {()} :=
  if_pos ⟨rfl, takes c k⟩
theorem duties_later (g : GSem nD τ sig) (r : ℕ) (h : 1 ≤ r) : (sched (F := F) m ρ).duties g r = ∅ :=
  if_neg fun h' => by omega

theorem amount_bar (c : Dev nD) : (sched (F := F) m ρ).amount (barCell c) 0 () = 1 := by dsimp only [sched]; exact if_pos rfl
theorem amount_send (c : Dev nD) : (sched (F := F) m ρ).amount (sendCell c) 0 () = N := by dsimp only [sched]; exact if_neg send_ne_bar
theorem amount_recv (c : Dev nD) : (sched (F := F) m ρ).amount (recvCell c) 0 () = N := by dsimp only [sched]; exact if_neg recv_ne_bar

theorem payload_bar (c : Dev nD) : (sched (F := F) m ρ).payload (barCell c) 0 () = barPay c := by dsimp only [sched]; exact if_pos rfl
theorem payload_send (c : Dev nD) : (sched (F := F) m ρ).payload (sendCell c) 0 () = own0 c (cands m ρ c) := by
  dsimp only [sched]; rw [if_neg send_ne_bar, if_pos rfl]
theorem payload_recv (c : Dev nD) : (sched (F := F) m ρ).payload (recvCell c) 0 () = own1 c (cands m ρ c) := by
  dsimp only [sched]; rw [if_neg recv_ne_bar, if_neg send_ne_recv.symm, if_pos rfl]

/-- A round is its one duty's amount, -/
theorem expect_eq (c : Dev nD) (k : Fin 3) : (sched (F := F) m ρ).expect (cell (c, k)) 0 = (sched (F := F) m ρ).amount (cell (c, k)) 0 () := by
  unfold Schedule.expect Schedule.amountOf; rw [duties_now, Finset.sum_singleton]
/-- and brings that duty's payload. -/
theorem rest_eq (c : Dev nD) (k : Fin 3) :
    bigSep ((sched (F := F) m ρ).duties (cell (c, k)) 0 \ ∅) (fun d => (sched (F := F) m ρ).payload (cell (c, k)) 0 d)
      = (sched (F := F) m ρ).payload (cell (c, k)) 0 () := by
  rw [Finset.sdiff_empty, duties_now, bigSep_singleton]

/-! ## Debts and levels -/

/-- What a device owes at launch: its peer's receive semaphore the transfer, its peer's barrier the signal. -/
def debt (c : Dev nD) : CellTallies nD τ sig Unit := tallyAt (recvCell (peer c)) () N + tallyAt (barCell (peer c)) () 1

def L (g : GSem nD τ sig) : Finset Unit := if g.1.2 = .tc then {()} else ∅
/-- Barriers are at level 1, receive semaphores at 2, all others at 0. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) : lv (recvCell c) () = 2 := (if_neg recv_ne_bar).trans (if_pos rfl)

/-- A tally that is positive somewhere is so at its own cell. -/
theorem tally_pos {g g' : GSem nD τ sig} {u : Unit} {n : ℕ} (h : 0 < tallyAt (Ix := Unit) g () n g' u) : g' = g := by
  rw [tallyAt_apply] at h
  by_contra hn
  rw [if_neg fun h' => hn h'.1] at h
  exact Nat.lt_irrefl 0 h

theorem debt_pos {c : Dev nD} {g : GSem nD τ sig} {u : Unit} (h : 0 < debt c g u) : g = recvCell (peer c) ∨ g = barCell (peer c) := by
  unfold debt at h
  rw [Pi.add_apply, Finsupp.add_apply] at h
  rcases Nat.add_pos_iff_pos_or_pos.mp h with h | h
  · exact .inl (tally_pos h)
  · exact .inr (tally_pos h)

omit [FloatOps F] in
/-- A staging semaphore may be waited for at launch, and when nothing is owed any more. -/
theorem mayWait_stage (c : Dev nD) (q : DmaSem sig) (hq : SemLoc.dma q ≠ .dma recvS) (O : CellTallies nD τ sig Unit) (hO : O = debt c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases debt_pos hg with rfl | rfl <;> exact Finset.mem_singleton_self _)
      (fun p hp => by
        rw [Finset.mem_singleton.mp hp]
        exact le_of_eq ((if_neg fun h => by cases h).trans (if_neg hq)))
      (fun g u hg => by
        rcases debt_pos hg with rfl | rfl
        · rw [show u = () from rfl, lv_recv]; decide
        · rw [show u = () from rfl, lv_bar]; decide)
  · rw [MayWait_zero]; iintro -; iempintro

omit [FloatOps F] in
/-- The barrier may be waited for while only the transfer is owed. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by rw [tally_pos hg]; exact Finset.mem_singleton_self _)
    (fun p hp => by rw [Finset.mem_singleton.mp hp]; exact le_of_eq (lv_bar c))
    (fun g u hg => by rw [tally_pos hg, show u = () from rfl, lv_recv]; decide)

end Cert.Exchange

end
-- ==== Proof.Body.lean ====
/-
The kernel's body on one device, executed statement by statement against the exchange's schedule: from its share of the
launch's resources, its block of columns staged and nothing owed but the signal and the transfer, it ends with its
result staged, its candidate buffer whole again, its three semaphores back at zero and nothing owed.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after -/

/-- The invariants device `c` opens: its own three semaphores', its peer's barrier's and its peer's receive semaphore's. -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- That the semaphores it pays to, and its own receive semaphore, are at round 0. -/
def marks (c : Dev nD) : sProp 𝕄 :=
  iprop(reached ER (barCell (peer c)) 0 ∗ reached ER (recvCell (peer c)) 0 ∗ reached ER (sendCell c) 0 ∗ reached ER (recvCell c) 0)

omit [FloatOps F] in
instance marks_persistent (c : Dev nD) : BI.Persistent (marks c : sProp 𝕄) := by unfold marks; infer_instance

/-- Its position at round 0 of its own three semaphores. -/
def places (c : Dev nD) : sProp 𝕄 :=
  iprop(atPos ER (barCell c) 0 ∅ 0 ∗ atPos ER (sendCell c) 0 ∅ 0 ∗ atPos ER (recvCell c) 0 ∅ 0)

/-- The right to pay the three duties it pays: its peer's barrier, its own send semaphore, its peer's receive semaphore. -/
def duties (c : Dev nD) : sProp 𝕄 :=
  iprop(dutyTok ER (barCell (peer c)) 0 () ∗ dutyTok ER (sendCell c) 0 () ∗ dutyTok ER (recvCell (peer c)) 0 ())

/-- All of the exchange's ghost state device `c` starts from. -/
def share (K : Dev nD × Fin 3 → ℕ) (c : Dev nD) : sProp 𝕄 := iprop(invs m ρ K c ∗ marks c ∗ places c ∗ duties c)

/-- That, the credit of its own barrier and receive semaphore, and the order of waits. -/
def start (c : Dev nD) : sProp 𝕄 :=
  iprop((∃ K, share m ρ K c) ∗ cred (tallyAt (barCell c) () 1) ∗ cred (tallyAt (recvCell c) () N) ∗ levAts L lv)

/-- Before the body: the start and the candidate buffer at some contents. -/
def before (c : Dev nD) : sProp 𝕄 := iprop(start m ρ c ∗ ∃ f, ((c : Thread nD τ).loc cc0_scratch0) ↦{fullShare} f)
/-- After it: the candidate buffer as the exchange leaves it, and the device's three semaphores at zero. -/
def after (c : Dev nD) : sProp 𝕄 :=
  iprop((((c : Thread nD τ).loc cc0_scratch0) ↦{fullShare} cands m ρ c) ∗ semVal (sendCell c) 0 ∗ semVal (recvCell c) 0 ∗ semVal (barCell c) 0)

/-- The staging pipeline's data: one point, the block staged in, the result staged out. -/
def dats (_ : Fin 1) (c : Dev nD) : Dat τ (Elt F) Unit ℕ UU ℕ cfg0 c where
  A w := (init m ρ).mem ((cfg0.win w).arr.view.loc (c : Thread nD τ))
  after w _ := match w with
    | ⟨0, _⟩ => block m ρ c
    | ⟨1, _⟩ => result m ρ c
  Φ t := match t with
    | ⟨0, _⟩ => before m ρ c
    | ⟨_ + 1, _⟩ => after m ρ c
  q _ := fullShare
  owed t := match t with
    | ⟨0, _⟩ => debt c
    | ⟨_ + 1, _⟩ => 0

abbrev 𝒱₀ : Variants := Variants.none

theorem fetched (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The accesses -/

abbrev rectX : Rect S256x1024 := Rect.unit (s := S256x1024) ![0, 0] S256x1024.size inb_S256x1024_S256x1024_0_0
abbrev rectO : Rect S256x8 := Rect.unit (s := S256x8) ![0, 0] S256x8.size inb_S256x8_S256x8_0_0

theorem hz : (![0, 0] : Fin 2 → Nat) = fun _ => 0 := funext fun a => by fin_cases a <;> rfl
omit [FloatOps F] in
theorem read_block (f : (cc0_stg0_0 : Ref sig .tc).ty.Contents (Elt F)) : (xM : Memref sig .tc .vmem S256x1024 .f32).view.readAt (Elt F) rectX.toLoadRect f = f :=
  Memref.readAt_unit_zero (Elt F) cc0_stg0_0 hz _ f
omit [FloatOps F] in
theorem write_result (f w : (cc0_stg1_0 : Ref sig .tc).ty.Contents (Elt F)) :
    ((oM : Memref sig .tc .vmem S256x8 .f32).access rectO : View sig .tc _ _ _).write (Elt F) f w Finset.univ = w :=
  Memref.write_access_unit_zero_univ (Elt F) cc0_stg1_0 hz _ f w

/-- A load or store of a slab touches the slab's positions only. -/
theorem load_within0 : (cM : Memref sig .tc .vmem S2x256x8 .f32).view.setOn rect0.set ⊆ (slab0 : Memref sig .tc .vmem S256x8 .f32).view.set := by
  rw [set0]; exact fun i hi => by
    obtain ⟨j, hj, rfl⟩ := Finset.mem_map.mp hi
    exact hj
theorem load_within1 : (cM : Memref sig .tc .vmem S2x256x8 .f32).view.setOn rect1.set ⊆ (slab1 : Memref sig .tc .vmem S256x8 .f32).view.set := by
  rw [set1]; exact fun i hi => by
    obtain ⟨j, hj, rfl⟩ := Finset.mem_map.mp hi
    exact hj
theorem store_within0 : (cM.access rect0 : View sig .tc _ _ _).setOn Finset.univ ⊆ (slab0 : Memref sig .tc .vmem S256x8 .f32).view.set := by
  rw [set0]; exact (View.setOn_subset_set _ _).trans (le_of_eq (View.set_slice_whole _ _))

/-- The transfer to the peer: it takes slab 0 and the peer's slab 1, settles the debt of the peer's receive semaphore and
    brings the credit of the device's own send semaphore. -/
theorem send_peer (K : Dev nD × Fin 3 → ℕ) (c n : Dev nD) (hn : n = peer c)
    {hsc : (slab1 : Memref sig (Dev.tc n : Thread nD τ).2.kind .vmem S256x8 .f32).view.ref.isScScratch = false}
    {hsrc : (slab0 : Memref sig .tc .vmem S256x8 .f32).view.WordExact} {hdst : (slab1 : Memref sig .tc .vmem S256x8 .f32).view.WordExact}
    {hsem : DmaTarget.Typed .vmem (.dma recvS) (.remote (Dev.tc n : Thread nD τ) (slab1 : Memref sig .tc .vmem S256x8 .f32) (.dma sendS) hsc)}
    {α : Type} {Q : α → sProp 𝕄} {k : PUnit → Prog (TpuEff nD τ sig (Elt F) Λ₀ .tc) α}
    (f : Buf (Elt F) ((peer c : Thread nD τ).loc cc0_scratch0)) (W : Waits sig Unit) :
    iprop(cellInv ER (sched m ρ) (K (c, 1)) (sendCell c) ∗ cellInv ER (sched m ρ) (K (peer c, 2)) (recvCell (peer c))
        ∗ own0 c (cands m ρ c) ∗ own1 (peer c) f
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slab0 (.remote (Dev.tc n : Thread nD τ) slab1 (.dma sendS) hsc) (.dma recvS) hsrc hdst hsem) k) Q) := by
  subst hn
  unfold own0 own1
  refine Rounds.wp_send_pointsTo 𝒱₀ ER (sched m ρ) (c : Thread nD τ) none (c' := (peer c : Thread nD τ)) (src := slab0) (dst := slab1)
    (sS := .dma sendS) (sem := .dma recvS) (κ₁ := K (c, 1)) (κ₂ := K (peer c, 2)) (r₁ := 0) (r₂ := 0) (d₁ := ()) (d₂ := ())
    (fd := f) (fs := cands m ρ c) (q := fullShare)
    (by rw [duties_now m ρ c 1]; exact Finset.mem_singleton_self _) (by rw [duties_now m ρ (peer c) 2]; exact Finset.mem_singleton_self _)
    () () N (View.amount_dma _ _) (amount_send m ρ c) (amount_recv m ρ (peer c)) 0 (by rw [zero_add]) (W := W) ?_ ?_
  · rw [payload_send]; exact BI.Entails.refl _
  · rw [payload_recv]; exact Entails.of_eq (landed m ρ c f)

/-! ## The body -/

/-- A staging buffer of device `c` at the contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(before m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

def bodyPost (c : Dev nD) : sProp 𝕄 :=
  iprop(after m ρ c ∗ (dats m ρ 0 c).owesAt () t0_0.succ ∗ staged c cc0_stg0_0 (block m ρ c) ∗ staged c cc0_stg1_0 (result m ρ c))

set_option maxHeartbeats 1600000 in
/-- The body from its precondition to its postcondition, one rule for each statement in the program's order. -/
theorem body_runs (c : Dev nD) :
    bodyPre m ρ c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) (fun _ => bodyPost m ρ c) := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre before start share invs marks places duties
  iintro ⟨⟨⟨⟨%K, ⟨#HIb, #HIs, #HIr, #HIbP, #HIrP⟩, ⟨#HrbP, #HrrP, #Hrs, #Hrr⟩, ⟨Hab, Has, Har⟩, HtbP, Hts, HtrP⟩, Hcb, Hcr, #Hlev⟩, ⟨%f0, Hcand⟩⟩,
    Ho, ⟨%d0, %g0, %hg0, Hx⟩, ⟨%d1, %g1, %hg1, Hout⟩⟩
  have hx : g0 = block m ρ c := by rw [hg0]; unfold Dat.before; rw [if_pos (fetched t0_0)]; rfl
  subst hx
  unfold Dat.owesAt Pipeline.owesWithin
  icases Ho with ⟨%W, %hW, HO⟩
  rw [show (dats m ρ 0 c).owed t0_0.castSucc = debt c from rfl]
  simp only [dev1_eq c]
  ihave Hsl := (slabs_eq (F := F) c f0).1 $$ Hcand
  icases Hsl with ⟨Hs0, Hs1⟩
  -- the entry signal to the peer's barrier hands over slab 1
  unfold debt
  iapply (Rounds.wp_signal 𝒱₀ ER (sched m ρ) (c : Thread nD τ) none (dst := (peer c : Thread nD τ)) (κ := K (peer c, 0))
      (d := ()) (by rw [duties_now m ρ (peer c) 0]; exact Finset.mem_singleton_self _) ((amount_bar m ρ (peer c)).trans (by decide)) ()
      (tallyAt (recvCell (peer c)) () N) rfl)
    $$ [HO HtbP Hs1]
  · isplitr; · iexact HIbP
    isplitl [HO]; · iexact HO
    isplitl [HtbP]; · iexact HtbP
    isplitl [Hs1]
    · rw [payload_bar]; unfold barPay; rw [peer_peer]
      isplitl [Hs1]; · iexists f0; iexact Hs1
      iexact Hrr
    · iexact HrbP
  iintro HO
  -- the block is read, and the candidates stored in slab 0
  iapply (wp_load 𝒱₀ (c : Thread nD τ) none Set.univ (m := xM) (Finset.subset_univ _)) $$ Hx; iintro Hx
  rw [read_block]
  unfold own0
  iapply (wp_load 𝒱₀ (c : Thread nD τ) none Set.univ (m := cM) load_within0) $$ Hs0; iintro Hs0
  iapply (wp_store 𝒱₀ (c : Thread nD τ) none Set.univ (m := cM) (r := rect0) (Mk := Finset.univ) store_within0) $$ Hs0; iintro Hs0
  ihave Hs0 := (Entails.of_eq (stored m ρ c f0)) $$ Hs0
  -- the barrier is waited for, owing only the transfer: it brings the peer's slab 1
  iapply (Rounds.wp_wait_rest_token 𝒱₀ ER (sched m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_eq m ρ c 0, amount_bar]; decide)) $$ [Hcb HO Hab]
  · isplitr; · iexact HIb
    isplitl [Hcb]; · iexact Hcb
    isplitl [HO]; · iexact HO
    isplitr; · iapply (mayWait_bar c); iexact Hlev
    iexact Hab
  iintro ⟨HO, Hab, -, Hpay⟩
  ihave Hp := (Entails.of_eq ((rest_eq m ρ c 0).trans (payload_bar m ρ c))) $$ Hpay
  unfold barPay
  icases Hp with ⟨⟨%fn, HsP⟩, #HrrP'⟩
  -- the transfer
  iapply (send_peer m ρ K c _ (dev2_eq c) fn (insert (SemLoc.reg barS, ()) W)) $$ [Hs0 HsP HO Hts HtrP]
  · isplitr; · iexact HIs
    isplitr; · iexact HIrP
    isplitl [Hs0]; · iexact Hs0
    isplitl [HsP]; · iexact HsP
    isplitl [HO]; · iexact HO
    isplitl [Hts]; · iexact Hts
    isplitr; · iexact Hrs
    isplitl [HtrP]; · iexact HtrP
    iexact HrrP
  iintro ⟨Hcs, HO⟩
  -- its departure is waited for: slab 0 is back
  iapply (Rounds.wp_wait_rest_token 𝒱₀ ER (sched m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_eq m ρ c 1, amount_send])) $$ [Hcs HO Has]
  · isplitr; · iexact HIs
    isplitl [Hcs]; · iexact Hcs
    isplitl [HO]; · iexact HO
    isplitr; · rw [MayWait_zero]; iempintro
    iexact Has
  iintro ⟨HO, Has, -, Hpay⟩
  ihave Hs0 := (Entails.of_eq ((rest_eq m ρ c 1).trans (payload_send m ρ c))) $$ Hpay
  -- the peer's arrival is waited for: slab 1 is back, holding the peer's candidates
  iapply (Rounds.wp_wait_rest_token 𝒱₀ ER (sched m ρ) (c : Thread nD τ) none (κ := K (c, 2))
      (wpE_waitDma2_eq 𝒱₀ (c : Thread nD τ) none Set.univ) (Set.mem_univ _) () (O := 0)
      (W := insert (SemLoc.dma sendS, ()) (insert (SemLoc.reg barS, ()) W)) (R := 0) (m := 0) (T := ∅)
      (by rw [Nat.zero_add, expect_eq m ρ c 2, amount_recv])) $$ [Hcr HO Har]
  · isplitr; · iexact HIr
    isplitl [Hcr]; · iexact Hcr
    isplitl [HO]; · iexact HO
    isplitr; · rw [MayWait_zero]; iempintro
    iexact Har
  iintro ⟨HO, Har, -, Hpay⟩
  ihave Hs1 := (Entails.of_eq ((rest_eq m ρ c 2).trans (payload_recv m ρ c))) $$ Hpay
  -- the three semaphores close at zero
  imod (Rounds.cell_close ER (sched m ρ) (Set.mem_univ (K (c, 1))) (fun h => h) (R := 0 + 1) (duties_later m ρ (sendCell c))) $$ [Has] with Hzs
  · isplitr; · iexact HIs
    iexact Has
  imod (Rounds.cell_close ER (sched m ρ) (Set.mem_univ (K (c, 2))) (fun h => h) (R := 0 + 1) (duties_later m ρ (recvCell c))) $$ [Har] with Hzr
  · isplitr; · iexact HIr
    iexact Har
  imod (Rounds.cell_close ER (sched m ρ) (Set.mem_univ (K (c, 0))) (fun h => h) (R := 0 + 1) (duties_later m ρ (barCell c))) $$ [Hab] with Hzb
  · isplitr; · iexact HIb
    iexact Hab
  -- the two slabs are read, and the result stored
  unfold own0 own1
  iapply (wp_load 𝒱₀ (c : Thread nD τ) none Set.univ (m := cM) load_within0) $$ Hs0; iintro Hs0
  rw [read0]
  iapply (wp_load 𝒱₀ (c : Thread nD τ) none Set.univ (m := cM) load_within1) $$ Hs1; iintro Hs1
  rw [read1]
  iapply (wp_load 𝒱₀ (c : Thread nD τ) none Set.univ (m := oM) (Finset.subset_univ _)) $$ Hout; iintro Hout
  iapply (wp_store 𝒱₀ (c : Thread nD τ) none Set.univ (m := oM) (r := rectO) (Mk := Finset.univ) (Finset.subset_univ _)) $$ Hout; iintro Hout
  rw [write_result, wp_ret]; imodintro
  unfold bodyPost after Dat.owesAt Pipeline.owesWithin
  rw [show (dats m ρ 0 c).owed t0_0.succ = 0 from rfl]
  isplitl [Hs0 Hs1 Hzs Hzr Hzb]
  · isplitl [Hs0 Hs1]
    · iapply (slabs_eq (F := F) c (cands m ρ c)).2
      unfold own0 own1
      isplitl [Hs0] <;> iassumption
    isplitl [Hzs]; · iexact Hzs
    isplitl [Hzr] <;> iassumption
  isplitl [HO]
  · iexists (insert (SemLoc.dma recvS, ()) (insert (SemLoc.dma sendS, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The obligation of the staging pipeline at its one point: the body, from what the pipeline hands it. -/
theorem body_obligation (c : Dev nD) : BodyObligation (dats (F := F) m ρ 0 c) (defs₀ (F := F)) 𝒱₀ () Set.univ := fun t => by
  rw [fin_N0 t, bigSep_W0, bigSep_W0]
  simp only [owns_whole_eq]
  exact body_runs m ρ c

end Cert.Exchange

end
-- ==== Proof.Run.lean ====
/-
The launch: the exchange's ghost state is minted, dealt out so that every device holds the rights to pay its peer's
duties, and the run of the whole program follows: it terminates, every result array holds the computed contents, the
argument is unchanged, and every semaphore is back at zero.
-/
module

public import proofs.«01_k».proof.Proof.Body
public import Idealize.ShloMosaic.Lib.Pipeline.CollectiveSegs
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Minting -/

theorem ownSemFacts : Pipeline.OwnSemFacts cfg0.spec ownSem := by decide

theorem share_eq (c : Dev nD) (w : Fin cfg0.W) : (dats m ρ 0 c).share w = fullShare := by unfold Dat.share; split <;> rfl

theorem cell_injective : Function.Injective (cell : Dev nD × Fin 3 → GSem nD τ sig) := by
  rintro ⟨c, k⟩ ⟨c', k'⟩ h
  have h1 : c = c' := congrArg (fun g : GSem nD τ sig => g.1.1) h
  have h2 : role k = role k' := congrArg Prod.snd h
  have h3 : k = k' := by fin_cases k <;> fin_cases k' <;> first | rfl | exact absurd h2 (by decide)
  rw [h1, h3]

/-- The semaphores of the exchange, -/
def cells : Finset (GSem nD τ sig) := Finset.univ.map ⟨cell, cell_injective⟩

/-- and the right to pay each one's duty. -/
abbrev right (ck : Dev nD × Fin 3) : GSem nD τ sig × ℕ × Unit := (cell ck, 0, ())
theorem right_injective : Function.Injective right := fun _ _ h => cell_injective (congrArg Prod.fst h)
def rights : Finset (GSem nD τ sig × ℕ × Unit) := Finset.univ.map ⟨right, right_injective⟩

/-- The ghost state at launch: the staging pipeline's and the exchange's. -/
def u₀ : UU :=
  (initOf (Pipeline.cells cfgs cellOf_inj) (Pipeline.launchToks cfgs cellOf_inj), initOf cells rights)

/-- What is minted for one semaphore: its state, its holder's place and mark, and the right to pay its duty. -/
def minted (ck : Dev nD × Fin 3) : sProp 𝕄 :=
  iprop(roundState ER (sched m ρ) (cell ck) 0 ∗ atPos ER (cell ck) 0 ∅ 0 ∗ reached ER (cell ck) 0 ∗ dutyTok ER (cell ck) 0 ())

/-- A device's three. -/
def G (c : Dev nD) : sProp 𝕄 := bigSep Finset.univ fun k : Fin 3 => minted m ρ (c, k)

/-- What the launch makes of it: the device's share. -/
def G' (c : Dev nD) : sProp 𝕄 := iprop(∃ K, share m ρ K c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem bigSep_cells (Φ : GSem nD τ sig → sProp 𝕄) : bigSep cells Φ = bigSep Finset.univ fun ck : Dev nD × Fin 3 => Φ (cell ck) := by
  unfold cells; rw [bigSep_map]; rfl

omit [FloatOps F] in
theorem bigSep_rights (Φ : GSem nD τ sig × ℕ × Unit → sProp 𝕄) : bigSep rights Φ = bigSep Finset.univ fun ck : Dev nD × Fin 3 => Φ (right ck) := by
  unfold rights; rw [bigSep_map]; rfl

/-- The exchange's part of the ghost state is what is minted for every device. -/
theorem mint : BI.own (ER (initOf cells rights)) ⊢ (|==> bigSep Finset.univ (G m ρ) : sProp 𝕄) := by
  iintro H
  imod (Rounds.fund ER (sched m ρ) cells rights) $$ H with ⟨Hst, Hr, Hat, Htok⟩
  imodintro
  ihave Hst := (Entails.of_eq (bigSep_cells fun g => roundState ER (sched m ρ) g 0)) $$ Hst
  ihave Hat := (Entails.of_eq (bigSep_cells (F := F) fun g => atPos ER g 0 ∅ 0)) $$ Hat
  ihave Hr := (Entails.of_eq (bigSep_cells (F := F) fun g => reached ER g 0)) $$ Hr
  ihave Htok := (Entails.of_eq (bigSep_rights (F := F) fun x => dutyTok ER x.1 x.2.1 x.2.2)) $$ Htok
  unfold G
  rw [← bigSep_univ_prod (fun ck : Dev nD × Fin 3 => minted m ρ ck)]
  unfold minted; simp only [bigSep_sep']
  isplitl [Hst]; · iexact Hst
  isplitl [Hat]; · iexact Hat
  isplitl [Hr] <;> iassumption

/-! ## Dealing -/

omit [FloatOps F] in
/-- The kernel's own semaphores are the send and the receive semaphore; -/
theorem ownSems0_eq (c : Dev nD) : (Pipeline.ownSems0 (Ix := Unit) (Name := ℕ) (U := UU) (Lvl := ℕ) (Val := Elt F) (τ := τ) ownSem c : sProp 𝕄)
    = iprop(semVal (sendCell c) 0 ∗ semVal (recvCell c) 0) := by
  rw [Pipeline.ownSems0_eq_of_list c ownSem [0, 1] (by decide) (by decide)]; rfl
omit [FloatOps F] in
/-- the one that belongs to no launch is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A semaphore at zero and what was minted for it make its invariant; its place, mark and right are left. -/
theorem allocate (ck : Dev nD × Fin 3) :
    iprop(semVal (cell ck) 0 ∗ minted m ρ ck)
      ⊢ (|={Set.univ}=> iprop((∃ κ : ℕ, cellInv ER (sched m ρ) κ (cell ck)) ∗ reached ER (cell ck) 0 ∗ atPos ER (cell ck) 0 ∅ 0 ∗ dutyTok ER (cell ck) 0 ()) : sProp 𝕄) := by
  unfold minted
  iintro ⟨Hv, Hst, Hat, Hr, Htok⟩
  imod ((Rounds.body_intro ER (sched m ρ) (cell ck)).trans inv_alloc) $$ [Hv Hst] with HI
  · isplitl [Hv] <;> iassumption
  imodintro
  isplitl [HI]; · iexact HI
  isplitl [Hr]; · iexact Hr
  isplitl [Hat] <;> iassumption

/-- The same for the three of one device. -/
theorem allocate_dev (c : Dev nD) :
    iprop(Pipeline.ownSems0 (Ix := Unit) (Name := ℕ) (U := UU) (Lvl := ℕ) (Val := Elt F) (τ := τ) ownSem c ∗ unscopedSems0 c ∗ G m ρ c)
      ⊢ |={Set.univ}=> (bigSep Finset.univ fun k : Fin 3 =>
          iprop((∃ κ : ℕ, cellInv ER (sched m ρ) κ (cell (c, k))) ∗ reached ER (cell (c, k)) 0 ∗ atPos ER (cell (c, k)) 0 ∅ 0 ∗ dutyTok ER (cell (c, k)) 0 ()) : sProp 𝕄) := by
  have h : iprop(Pipeline.ownSems0 (Ix := Unit) (Name := ℕ) (U := UU) (Lvl := ℕ) (Val := Elt F) (τ := τ) ownSem c ∗ unscopedSems0 c ∗ G m ρ c)
      ⊢ (bigSep Finset.univ fun k : Fin 3 => iprop(semVal (cell (c, k)) 0 ∗ minted m ρ (c, k)) : sProp 𝕄) := by
    unfold G
    rw [ownSems0_eq, unscopedSems0_eq, bigSep_fin3, bigSep_fin3]
    iintro ⟨⟨Hs, Hr⟩, Hb, Hm0, Hm1, Hm2⟩
    isplitl [Hb Hm0]; · isplitl [Hb] <;> iassumption
    isplitl [Hs Hm1]; · isplitl [Hs] <;> iassumption
    isplitl [Hr] <;> iassumption
  exact h.trans ((bigSep_mono fun k _ => allocate m ρ (c, k)).trans (bigSep_fupd _ _))

/-- What all devices know: every invariant and every mark. -/
def known (K : Dev nD × Fin 3 → ℕ) : sProp 𝕄 :=
  iprop((bigSep Finset.univ fun ck : Dev nD × Fin 3 => cellInv ER (sched m ρ) (K ck) (cell ck))
    ∗ bigSep Finset.univ fun ck : Dev nD × Fin 3 => reached ER (cell ck) 0)

instance known_persistent (K : Dev nD × Fin 3 → ℕ) : BI.Persistent (known m ρ K) := by unfold known; infer_instance

/-- The invariant of one semaphore, -/
theorem known_inv (K : Dev nD × Fin 3 → ℕ) (ck : Dev nD × Fin 3) :
    (bigSep Finset.univ fun ck : Dev nD × Fin 3 => (cellInv ER (sched m ρ) (K ck) (cell ck) : sProp 𝕄)) ⊢ cellInv ER (sched m ρ) (K ck) (cell ck) :=
  bigSep_elim (Finset.mem_univ ck)
omit [FloatOps F] in
/-- and its mark. -/
theorem known_mark (ck : Dev nD × Fin 3) :
    (bigSep Finset.univ fun ck : Dev nD × Fin 3 => (reached ER (cell ck) 0 : sProp 𝕄)) ⊢ reached ER (cell ck) 0 :=
  bigSep_elim (Finset.mem_univ ck)

/-- What is known, its places and the rights it pays with make a device's share. -/
theorem share_intro (K : Dev nD × Fin 3 → ℕ) (c : Dev nD) : iprop(known m ρ K ∗ places c ∗ duties c) ⊢ G' m ρ c := by
  unfold known G' share invs marks
  iintro ⟨⟨#HI, #HR⟩, Hp, Hd⟩
  iexists K
  isplitr
  · isplitr; · iapply (known_inv m ρ K (c, 0)); iexact HI
    isplitr; · iapply (known_inv m ρ K (c, 1)); iexact HI
    isplitr; · iapply (known_inv m ρ K (c, 2)); iexact HI
    isplitr; · iapply (known_inv m ρ K (peer c, 0)); iexact HI
    iapply (known_inv m ρ K (peer c, 2)); iexact HI
  isplitr
  · isplitr; · iapply (known_mark (F := F) (peer c, 0)); iexact HR
    isplitr; · iapply (known_mark (F := F) (peer c, 2)); iexact HR
    isplitr; · iapply (known_mark (F := F) (c, 1)); iexact HR
    iapply (known_mark (F := F) (c, 2)); iexact HR
  isplitl [Hp] <;> iassumption

omit [FloatOps F] in
/-- The rights to pay a device's barrier and receive semaphore go to its peer, that of its send semaphore stays. -/
theorem rights_to_peers :
    (bigSep Finset.univ fun c : Dev nD => bigSep Finset.univ fun k : Fin 3 => (dutyTok ER (cell (c, k)) 0 () : sProp 𝕄))
      ⊢ bigSep Finset.univ fun c : Dev nD => duties c := by
  unfold duties
  simp only [bigSep_fin3, bigSep_sep']
  rw [bigSep_univ_equiv peers (fun c : Dev nD => (dutyTok ER (cell (c, 0)) 0 () : sProp 𝕄)),
    bigSep_univ_equiv peers (fun c : Dev nD => (dutyTok ER (cell (c, 2)) 0 () : sProp 𝕄))]
  exact .rfl

omit [FloatOps F] in
/-- What is known to all goes with every device's own. -/
theorem deal {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- All devices' invariants, marks, places and rights become all devices' shares. -/
theorem regroup :
    (bigSep Finset.univ fun c : Dev nD => bigSep Finset.univ fun k : Fin 3 =>
        iprop((∃ κ : ℕ, cellInv ER (sched m ρ) κ (cell (c, k))) ∗ reached ER (cell (c, k)) 0 ∗ atPos ER (cell (c, k)) 0 ∅ 0 ∗ dutyTok ER (cell (c, k)) 0 ()) : sProp 𝕄)
      ⊢ bigSep Finset.univ (G' m ρ) := by
  simp only [bigSep_sep']
  rw [← bigSep_univ_prod (fun ck : Dev nD × Fin 3 => iprop(∃ κ : ℕ, cellInv ER (sched m ρ) κ (cell ck))),
    ← bigSep_univ_prod (fun ck : Dev nD × Fin 3 => (reached ER (cell ck) 0 : sProp 𝕄))]
  iintro ⟨HI, #HR, Hat, Htok⟩
  ihave HK := (BI.bigSep_exists_pi Finset.univ (fun (ck : Dev nD × Fin 3) (κ : ℕ) => (cellInv ER (sched m ρ) κ (cell ck) : sProp 𝕄))) $$ HI
  icases HK with ⟨%K, #HI⟩
  ihave Hd := (rights_to_peers (F := F)) $$ Htok
  iapply (deal (R := known m ρ K) (Φ := fun c => iprop(places c ∗ duties c)) fun c => share_intro m ρ K c)
  isplitr
  · unfold known; isplitl; · iexact HI
    iexact HR
  rw [bigSep_sep']
  isplitl [Hat]
  · iapply (Entails.of_eq (bigSep_congr (s := Finset.univ) fun (c : Dev nD) _ =>
      (bigSep_fin3 (F := F) fun k => atPos ER (cell (c, k)) 0 ∅ 0)))
    iexact Hat
  iexact Hd

/-- The global step: all devices' semaphores and minted state become all devices' shares. -/
theorem glob : (bigSep Finset.univ fun c => iprop(Pipeline.ownSems0 (Ix := Unit) (Name := ℕ) (U := UU) (Lvl := ℕ) (Val := Elt F) (τ := τ) ownSem c ∗ unscopedSems0 c ∗ G m ρ c) : sProp 𝕄)
    ⊢ |={Set.univ}=> bigSep Finset.univ (G' m ρ) :=
  ((bigSep_mono fun c _ => allocate_dev m ρ c).trans (bigSep_fupd _ _)).trans (BI.fupd_mono (regroup m ρ))

/-! ## The credit at launch -/

omit [FloatOps F] in
theorem bar_inj {a b : Dev nD} (h : barCell a = barCell b) : a = b := congrArg (fun g : GSem nD τ sig => g.1.1) h
omit [FloatOps F] in
theorem recv_inj {a b : Dev nD} (h : recvCell a = recvCell b) : a = b := congrArg (fun g : GSem nD τ sig => g.1.1) h

omit [FloatOps F] in
/-- Among all devices only the peer owes a device's barrier, namely one unit; -/
theorem owed_bar (d c : Dev nD) : debt d (barCell c) () = if d = peer c then 1 else 0 := by
  unfold debt
  rw [Pi.add_apply, Finsupp.add_apply, tallyAt_ne_cell (fun h => recv_ne_bar (congrArg Prod.snd h).symm), Finsupp.zero_apply, Nat.zero_add, tallyAt_apply]
  refine if_congr ⟨fun h => ?_, fun h => ?_⟩ rfl rfl
  · rw [bar_inj h.1, peer_peer]
  · rw [h, peer_peer]; exact ⟨rfl, rfl⟩

omit [FloatOps F] in
/-- and only the peer owes its receive semaphore, namely what the transfer brings. -/
theorem owed_recv (d c : Dev nD) : debt d (recvCell c) () = if d = peer c then N else 0 := by
  unfold debt
  rw [Pi.add_apply, Finsupp.add_apply, tallyAt_ne_cell (g := barCell (peer d)) (fun h => recv_ne_bar (congrArg Prod.snd h)), Finsupp.zero_apply, Nat.add_zero, tallyAt_apply]
  refine if_congr ⟨fun h => ?_, fun h => ?_⟩ rfl rfl
  · rw [recv_inj h.1, peer_peer]
  · rw [h, peer_peer]; exact ⟨rfl, rfl⟩

omit [FloatOps F] in
/-- A semaphore to which one device owes `n` has credit `n` at launch. -/
theorem credit_of {g : GSem nD τ sig} {n : ℕ} {e : Dev nD} (h : ∀ d, debt d g () = if d = e then n else 0) :
    tallyOn g (launchCredit (Pipeline.owing debt) 0 g) = (tallyAt g () n : CellTallies nD τ sig Unit) := by
  unfold tallyAt; refine congrArg _ (Finsupp.ext fun u => ?_)
  rw [Pipeline.launchCredit_owing, show u = () from rfl, Finsupp.single_eq_same, Finset.sum_congr rfl fun d _ => h d,
    Finset.sum_ite_eq' Finset.univ e fun _ => n, if_pos (Finset.mem_univ _)]

omit [FloatOps F] in
theorem credits (c : Dev nD) :
    (Pipeline.launchCred debt c : sProp 𝕄) ⊢ iprop(cred (tallyAt (barCell c) () 1) ∗ cred (tallyAt (recvCell c) () N)) := by
  unfold Pipeline.launchCred
  rw [bigSep_univ_at _ (SemLoc.reg barS), credit_of fun d => owed_bar d c]
  refine sep_mono_right ?_
  rw [← credit_of fun d => owed_recv d c]
  exact bigSep_elim (Finset.mem_erase.mpr ⟨recv_ne_bar, Finset.mem_univ _⟩)

/-! ## The run -/

theorem start_intro (c : Dev nD) :
    iprop(Pipeline.unscopedRestP Pipeline.Prefetch.none cfg0.spec c (fun b => m ((c : Thread nD τ).loc b)) ∗ levAts L lv
        ∗ Pipeline.launchCred debt c ∗ prngReg c (ρ c) ∗ G' m ρ c)
      ⊢ |={Set.univ}=> iprop(start m ρ c ∗ emp) := by
  iintro ⟨-, Hl, Hc, -, HG⟩
  ihave Hc := (credits (F := F) c) $$ Hc
  icases Hc with ⟨H1, HN⟩
  imodintro
  unfold start G'
  isplitl
  · isplitl [HG]; · iexact HG
    isplitl [H1]; · iexact H1
    isplitl [HN] <;> iassumption
  · iempintro

/-- The scratch buffer joins what a device starts with; -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hf⟩
  isplitl [Hs] <;> iassumption

/-- and at the end the scratch buffer and the semaphores, at zero, are given back. -/
theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = after m ρ c from rfl, scopedRest0_eq, ownSems0_eq, unscopedSems0_eq]
  unfold after
  iintro ⟨Hf, Hs, Hr, Hb⟩
  isplitl [Hb]; · iexact Hb
  isplitl [Hs Hr]; · isplitl [Hs] <;> iassumption
  iexists _; iexact Hf

/-- The staging pipeline may wait whatever is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, _⟩
      · exact Or.inl rfl
      · exact Or.inr rfl)

/-- A window's array after the run. -/
def final (c : Dev nD) (w : Fin cfg0.W) : Buf (Elt F) ((cfg0.win w).arr.view.loc (c : Thread nD τ)) := (dats m ρ 0 c).arrAt w cfg0.N

/-- Every fair execution, from any memory with all semaphores at zero, terminates; every array is then as computed, and every
    semaphore is at zero. -/
theorem run_arrays : θ_run defs (onTc (τ := τ) (main (F := F))) (init m ρ)
    (fun r => (∀ (c : Dev nD) (w : Fin cfg0.W), r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := debt) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is as it was. -/
theorem final_arg (c : Dev nD) : final m ρ c (0 : Fin 2) = (init m ρ).mem (win0_0.arr.view.loc (c : Thread nD τ)) :=
  (dats (F := F) m ρ 0 c).arrAt_in (0 : Fin 2) rfl _

/-- The one position of the result's window is the whole array. -/
theorem emb_out (t : Fin cfg0.N) (i : S256x8.Idx) : (((cfg0.win (1 : Fin 2)).blk t).view : View sig .tc _ _ _).emb i = i := by
  rw [fin_N0 t]
  exact funext fun a => Fin.ext (by fin_cases a <;> exact (Nat.zero_add _).trans (Nat.one_mul _))

omit [FloatOps F] in
/-- So is that of the argument's, so the block staged in is the device's whole argument. -/
theorem block_eq (c : Dev nD) : block m ρ c = m ((c : Thread nD τ).loc main_arg0) :=
  funext fun i => congrArg (m ((c : Thread nD τ).loc main_arg0))
    (funext fun a => Fin.ext (by fin_cases a <;> exact (Nat.zero_add _).trans (Nat.one_mul _)))

/-- The result array holds the merge of the device's own candidates and its peer's. -/
theorem final_result (c : Dev nD) : final m ρ c (1 : Fin 2) = result m ρ c :=
  (dats (F := F) m ρ 0 c).arrAt_eq_of_cover 1 (result m ρ c)
    (fun t _ => funext fun i => congrArg (result m ρ c) (emb_out t i).symm)
    (fun i => ⟨t0_0, by rfl, Finset.mem_map.mpr ⟨i, Finset.mem_univ _, emb_out _ i⟩⟩)

/-- The run: every device's result array holds the merged candidates, its argument is unchanged, every semaphore is at zero. -/
theorem run_main : θ_run defs (onTc (τ := τ) (main (F := F))) (init m ρ)
    (fun r => (∀ c : Dev nD, r.2.mem ((c : Thread nD τ).loc main_v1) = result m ρ c
      ∧ r.2.mem ((c : Thread nD τ).loc main_arg0) = m ((c : Thread nD τ).loc main_arg0)) ∧ r.2.sem = fun _ => 0) :=
  (θ_run defs _ _).mono (fun _ h => ⟨fun c => ⟨(h.1 c 1).trans (final_result m ρ c), (h.1 c 0).trans (final_arg m ρ c)⟩, h.2⟩) (run_arrays m ρ)

/-- Of that, what is left when the result is not looked at. -/
theorem run_quiet : θ_run defs (onTc (τ := τ) (main (F := F))) (init m ρ)
    (fun r => (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_main m ρ)

end Cert.Exchange

end
-- ==== Proof.Ranks.lean ====
/-
The order facts behind a top-k by repeated maximum, over the extended reals: what "the largest value, then the largest
below it, then the largest below that" gives of a set, that these of two sets determine those of their union, and that
they are the entries of a descending sequence for as long as it strictly falls.
-/
module

public import Mathlib.Data.EReal.Basic
public import Mathlib.Order.ConditionallyCompleteLattice.Finset

@[expose] public section

noncomputable section

namespace Cert.Ranks

/-- The largest element of `S` below `t` (⊥ if there is none). -/
def below (S : Set EReal) (t : EReal) : EReal := sSup {x ∈ S | x < t}

/-- The largest element of `S`, the largest below it, and so on, ⊥ once there is none. -/
def rank (S : Set EReal) : ℕ → EReal
  | 0 => sSup S
  | j + 1 => below S (rank S j)

/-- The first `k` of them. -/
def firsts (k : ℕ) (S : Set EReal) : Set EReal := {t | ∃ i < k, rank S i = t}

variable {S A B : Set EReal} {s t : EReal}

theorem below_le_self : below S t ≤ t := sSup_le fun _ hx => hx.2.le

/-- `below` grows with the set and with the bound. -/
theorem below_mono (h : A ⊆ B) (hst : s ≤ t) : below A s ≤ below B t := sSup_le_sSup fun _ hx => ⟨h hx.1, hx.2.trans_le hst⟩

theorem below_union : below (A ∪ B) t = below A t ⊔ below B t := by
  unfold below
  rw [← sSup_union]
  refine congrArg sSup (Set.ext fun x => ?_)
  simp only [Set.mem_setOf_eq, Set.mem_union, or_and_right]

/-- In a finite set what is below `t` stays below it, unless `t` is the least value. -/
theorem below_lt (hS : S.Finite) (ht : ⊥ < t) : below S t < t := by
  rcases Set.eq_empty_or_nonempty {x ∈ S | x < t} with h | h
  · unfold below; rw [h, sSup_empty]; exact ht
  · exact (h.csSup_mem (hS.subset fun _ hx => hx.1)).2

/-- The ranks descend, -/
theorem rank_anti : Antitone (rank S) := antitone_nat_of_succ_le fun _ => below_le_self

/-- and grow with the set; -/
theorem rank_mono (h : A ⊆ B) : ∀ j, rank A j ≤ rank B j
  | 0 => sSup_le_sSup h
  | j + 1 => below_mono h (rank_mono h j)

/-- each is the supremum of some elements of the set. -/
theorem rank_le_below (j : ℕ) (h : rank S j < t) : rank S j ≤ below S t := by
  cases j with
  | zero => exact sSup_le fun x hx => le_sSup ⟨hx, (le_sSup hx).trans_lt h⟩
  | succ j => exact sSup_le fun x hx => le_sSup ⟨hx.1, (show x ≤ rank S (j + 1) from le_sSup hx).trans_lt h⟩

/-- What is below `t` in `S` is at most the first rank that is below `t`. -/
theorem below_le_rank (j : ℕ) (h : rank S j < t) : ∃ i ≤ j, rank S i < t ∧ below S t ≤ rank S i := by
  induction j with
  | zero => exact ⟨0, le_rfl, h, sSup_le fun x hx => le_sSup hx.1⟩
  | succ j ih =>
    by_cases hj : rank S j < t
    · obtain ⟨i, hi, h⟩ := ih hj; exact ⟨i, hi.trans j.le_succ, h⟩
    · exact ⟨j + 1, le_rfl, h, below_mono le_rfl (not_lt.mp hj)⟩

/-- Below a bound that rank `j` does not exceed, a finite set and its first ranks, up to `j + 1` at least, have the same
    largest element. -/
theorem below_firsts (hS : S.Finite) {j k : ℕ} (hk : j + 1 < k) (h : rank S j ≤ t) : below (firsts k S) t = below S t := by
  refine le_antisymm (sSup_le ?_) ?_
  · rintro x ⟨⟨i, -, rfl⟩, hx⟩; exact rank_le_below i hx
  · rcases eq_bot_or_bot_lt t with rfl | ht
    · exact below_le_self.trans bot_le
    · have hlt : rank S (j + 1) < t := (below_mono le_rfl h).trans_lt (below_lt hS ht)
      obtain ⟨i, hi, hit, hle⟩ := below_le_rank (j + 1) hlt
      exact hle.trans (le_sSup ⟨⟨i, hi.trans_lt hk, rfl⟩, hit⟩)

theorem sSup_firsts {k : ℕ} (hk : 0 < k) : sSup (firsts k S) = sSup S :=
  le_antisymm (sSup_le fun x hx => by obtain ⟨i, -, rfl⟩ := hx; exact rank_anti (Nat.zero_le i)) (le_sSup ⟨0, hk, rfl⟩)

/-- MERGING: the first `k` ranks of two finite sets determine the first `k` ranks of their union. -/
theorem rank_firsts_union (hA : A.Finite) (hB : B.Finite) {k : ℕ} : ∀ j < k, rank (firsts k A ∪ firsts k B) j = rank (A ∪ B) j
  | 0, hk => by
    show sSup _ = sSup _
    rw [sSup_union, sSup_union, sSup_firsts hk, sSup_firsts hk]
  | j + 1, hk => by
    show below _ (rank _ j) = below _ (rank _ j)
    rw [rank_firsts_union hA hB j (j.lt_succ_self.trans hk), below_union, below_union,
      below_firsts hA hk (rank_mono Set.subset_union_left j), below_firsts hB hk (rank_mono Set.subset_union_right j)]

/-- A DESCENDING SEQUENCE: as long as it strictly falls, its entries are the ranks of its values. -/
theorem rank_range {n : ℕ} {v : Fin n → EReal} (hv : Antitone v) :
    ∀ (j : ℕ) (hj : j < n), (∀ i (hi : i < j), v ⟨i + 1, by omega⟩ < v ⟨i, by omega⟩) → rank (Set.range v) j = v ⟨j, hj⟩
  | 0, hj, _ => le_antisymm (sSup_le fun x ⟨i, hi⟩ => hi ▸ hv (Nat.zero_le i.val)) (le_sSup ⟨⟨0, hj⟩, rfl⟩)
  | j + 1, hj, h => by
    show below _ (rank _ j) = _
    rw [rank_range hv j (by omega) fun i hi => h i (by omega)]
    refine le_antisymm (sSup_le ?_) (le_sSup ⟨⟨_, rfl⟩, h j j.lt_succ_self⟩)
    rintro x ⟨⟨k, rfl⟩, hk⟩
    exact hv (Nat.succ_le_of_lt (not_le.mp fun hkj => hk.not_ge (hv hkj)))

/-- The largest element below `t` among the values of a function, written with the others replaced by ⊥. -/
theorem iSup_ite {ι : Type} (f : ι → EReal) (t : EReal) : (⨆ i, if f i < t then f i else ⊥) = below (Set.range f) t := by
  refine le_antisymm (iSup_le fun i => ?_) (sSup_le ?_)
  · split
    · exact le_sSup ⟨⟨i, rfl⟩, ‹_›⟩
    · exact bot_le
  · rintro x ⟨⟨i, rfl⟩, hi⟩
    exact (le_of_eq (if_pos hi).symm).trans (le_iSup (fun i => if f i < t then f i else ⊥) i)

end Cert.Ranks

end
-- ==== Proof.Selected.lean ====
/-
What the kernel's two selections compute over the extended reals: entry `j` of a row is the row's rank `j` — the largest
value, the largest below it, and so on (Ranks.lean) — first over a device's own columns, then over both devices' candidates.
-/
module

public import proofs.«01_k».proof.Proof.Protocol
public import proofs.«01_k».proof.Proof.Ranks
public import Idealize.ShloMosaic.Lib.ValueLayout
public import Idealize.ShloMosaic.Lib.ValueLayoutCasts
public import Idealize.ShloMosaic.Lib.Pipeline.Value
public import Idealize.ShloMosaic.PureOps.Ideal.Laws

@[expose] public section

noncomputable section

namespace Cert.Selected

open Cert.KernelIdeal Cert.KernelIdeal.Gen Cert.Exchange Cert.Ranks
open Idealize.ShloMosaic Idealize.ShloMosaic.ValueIdx

theorem neg_inf : (FloatOps.ofBits .f32 0xFF800000#32 : Ideal .f32) = (⊥ : EReal) := by
  show Ideal.ofBits .f32 0xFF800000#32 = ⊥
  simp [Ideal.ofBits, Ideal.ieee]

/-- Eight columns side by side, read at row `r` and column `j`: row `r` of column `j`. -/
theorem columns_apply {α : Type} (f : Fin 8 → ((⟨2, ![256, 1]⟩ : Shape).Idx → α))
    (h : Shape.Concatenates (([⟨⟨2, ![256, 1]⟩, f 0⟩, ⟨⟨2, ![256, 1]⟩, f 1⟩, ⟨⟨2, ![256, 1]⟩, f 2⟩, ⟨⟨2, ![256, 1]⟩, f 3⟩, ⟨⟨2, ![256, 1]⟩, f 4⟩,
      ⟨⟨2, ![256, 1]⟩, f 5⟩, ⟨⟨2, ![256, 1]⟩, f 6⟩, ⟨⟨2, ![256, 1]⟩, f 7⟩] : List ((s : Shape) × (s.Idx → α))).map (·.1)) ⟨2, ![256, 8]⟩ 1)
    (r : Fin 256) (j : Fin 8) :
    concatenate ⟨2, ![256, 8]⟩ 1 [⟨⟨2, ![256, 1]⟩, f 0⟩, ⟨⟨2, ![256, 1]⟩, f 1⟩, ⟨⟨2, ![256, 1]⟩, f 2⟩, ⟨⟨2, ![256, 1]⟩, f 3⟩, ⟨⟨2, ![256, 1]⟩, f 4⟩,
      ⟨⟨2, ![256, 1]⟩, f 5⟩, ⟨⟨2, ![256, 1]⟩, f 6⟩, ⟨⟨2, ![256, 1]⟩, f 7⟩] h (ix2 r j) = f j (ix2 r 0) :=
  concatenate_ofFn_unit_apply (t := ⟨2, ![256, 8]⟩) (s₁ := ⟨2, ![256, 1]⟩) 1 f h rfl rfl (ix2 r j) j rfl (ix2 r 0) fun b hb => by
    match b with
    | ⟨0, _⟩ => rfl
    | ⟨1, _⟩ => exact absurd rfl hb

section Rows
variable {n : ℕ}

/-- The values of row `r`. -/
def row (x : FVec Ideal ⟨2, ![256, n]⟩ .f32) (r : Fin 256) : Set EReal := Set.range fun k : Fin n => (x (ix2 r k) : EReal)

variable (hr : (⟨2, ![256, n]⟩ : Shape).Reduces [1] S256) (hb : S256x1.Broadcasts ⟨2, ![256, n]⟩)

/-- The kernel's column of row maxima. -/
def maxima (x : FVec Ideal ⟨2, ![256, n]⟩ .f32) : FVec Ideal S256x1 .f32 :=
  shapeCast S256x1 (multiReduction .maximumf [1] S256 x 0xFF800000#32 hr (.inl rfl) rfl) shapeCasts_S256_S256x1

theorem maxima_apply (x : FVec Ideal ⟨2, ![256, n]⟩ .f32) (r : Fin 256) : maxima hr x (ix2 r 0) = ⨆ k, (x (ix2 r k) : EReal) := by
  unfold maxima
  rw [shapeCast_a_a1_apply]
  refine (Ideal.multiReduction_maximumf_single x _ hr _ _ (ix1 r)).trans ?_
  rw [neg_inf]
  have e : (x ∘ hr.lift (ix1 r)) = fun k : Fin n => x (ix2 r k) := funext fun k => congrArg x (funext fun a => by
    match a with
    | ⟨0, _⟩ => rfl
    | ⟨1, _⟩ => rfl)
  rw [e, ← Finset.sup_univ_eq_iSup]
  rfl

/-- The kernel's next column: the row maxima of what lies strictly below the last ones. -/
def next (x : FVec Ideal ⟨2, ![256, n]⟩ .f32) (v : FVec Ideal S256x1 .f32) : FVec Ideal S256x1 .f32 :=
  maxima hr (select (cmpf .olt x (broadcastTo ⟨2, ![256, n]⟩ v hb)) x (broadcast ⟨2, ![256, n]⟩ (Scalar.ofBits .f32 0xFF800000#32)))

theorem next_apply (x : FVec Ideal ⟨2, ![256, n]⟩ .f32) (v : FVec Ideal S256x1 .f32) (r : Fin 256) :
    next hr hb x v (ix2 r 0) = below (row x r) (v (ix2 r 0)) := by
  unfold next
  rw [maxima_apply, row, ← iSup_ite]
  refine iSup_congr fun k => ?_
  have e : broadcastTo ⟨2, ![256, n]⟩ v hb (ix2 r k) = v (ix2 r 0) := broadcastTo_apply _ _ _ _ fun a => by
    match a with
    | ⟨0, _⟩ => rfl
    | ⟨1, _⟩ => rfl
  show Scalar.select (FloatOps.cmpf .olt (x (ix2 r k)) (broadcastTo ⟨2, ![256, n]⟩ v hb (ix2 r k))) (x (ix2 r k)) (FloatOps.ofBits .f32 0xFF800000#32) = _
  rw [e, neg_inf, Ideal.cmpf_def]
  show Scalar.select (BitVec.ofBool (decide ((x (ix2 r k) : EReal) < v (ix2 r 0)))) _ _ = _
  by_cases h : (x (ix2 r k) : EReal) < v (ix2 r 0)
  · rw [if_pos h, decide_eq_true h]; rfl
  · rw [if_neg h, decide_eq_false h]; rfl

/-- The kernel's columns one after the other: -/
def column (x : FVec Ideal ⟨2, ![256, n]⟩ .f32) : ℕ → FVec Ideal S256x1 .f32
  | 0 => maxima hr x
  | j + 1 => next hr hb x (column x j)

/-- column `j` holds every row's rank `j`. -/
theorem column_apply (x : FVec Ideal ⟨2, ![256, n]⟩ .f32) (r : Fin 256) : ∀ j, column hr hb x j (ix2 r 0) = rank (row x r) j
  | 0 => by rw [column, maxima_apply]; exact sSup_range.symm
  | j + 1 => by rw [column, next_apply, column_apply x r j]; rfl

end Rows

/-- Eight columns read as the array they make. -/
abbrev Cols : Prop := Shape.Concatenates [S256x1, S256x1, S256x1, S256x1, S256x1, S256x1, S256x1, S256x1] S256x8 1

def side (f : ℕ → FVec Ideal S256x1 .f32) (h : Cols) : FVec Ideal S256x8 .f32 :=
  concatenate S256x8 1 [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩] h

theorem side_apply (f : ℕ → FVec Ideal S256x1 .f32) (h : Cols) (r : Fin 256) (j : Fin 8) : side f h (ix2 r j) = f j.val (ix2 r 0) :=
  columns_apply (fun j : Fin 8 => f j.val) h r j

/-- THE LOCAL SELECTION: entry `j` of row `r` is rank `j` of the row's values. -/
theorem pick_apply (x : FVec Ideal S256x1024 .f32) (r : Fin 256) (j : Fin 8) : pick (F := Ideal) x (ix3 0 r j) = rank (row x r) j := by
  have h2 : k0_pay2 (F := Ideal) x = x := shapeCast_self _ _
  have e : pick (F := Ideal) x = shapeCast S1x256x8 (side (column reduces_S256x1024_S256 broadcasts_S256x1_S256x1024 (k0_pay2 x))
      concatenates_S256x1_S256x1_S256x1_S256x1_S256x1_S256x1_S256x1_S256x1_S256x8_d1) shapeCasts_S256x8_S1x256x8 := rfl
  rw [e, h2]
  exact (shapeCast_ab_1ab_apply _ _ _ _ _).trans ((side_apply _ _ _ _).trans (column_apply _ _ x r j))

/-- Both devices' candidates side by side have, in row `r`, the values of both rows. -/
theorem both_row (a b : FVec Ideal S1x256x8 .f32) (r : Fin 256) :
    row (k0_pay9 (F := Ideal) a b) r = (Set.range fun j : Fin 8 => (a (ix3 0 r j) : EReal)) ∪ Set.range fun j : Fin 8 => (b (ix3 0 r j) : EReal) := by
  have hl : ∀ j : Fin 8, k0_pay9 (F := Ideal) a b (ix2 r ⟨j.val, by omega⟩) = a (ix3 0 r j) := fun j =>
    (concatenate_pair_apply_left (t := S256x16) (s₁ := S256x8) (s₂ := S256x8) (a := 1) (x₁ := shapeCast S256x8 a shapeCasts_S1x256x8_S256x8) (x₂ := shapeCast S256x8 b shapeCasts_S1x256x8_S256x8) concatenates_S256x8_S256x8_S256x16_d1 (ix2 r ⟨j.val, by omega⟩) rfl (ix2 r j) fun b => by
      match b with
      | ⟨0, _⟩ => rfl
      | ⟨1, _⟩ => rfl).trans (shapeCast_1ab_ab_apply _ _ _ _)
  have hh : ∀ j : Fin 8, k0_pay9 (F := Ideal) a b (ix2 r ⟨j.val + 8, by omega⟩) = b (ix3 0 r j) := fun j =>
    (concatenate_pair_apply_right (t := S256x16) (s₁ := S256x8) (s₂ := S256x8) (a := 1) (x₁ := shapeCast S256x8 a shapeCasts_S1x256x8_S256x8) (x₂ := shapeCast S256x8 b shapeCasts_S1x256x8_S256x8) concatenates_S256x8_S256x8_S256x16_d1 (ix2 r ⟨j.val + 8, by omega⟩) rfl rfl (ix2 r j) (fun b hb => by
      match b with
      | ⟨0, _⟩ => rfl
      | ⟨1, _⟩ => exact absurd rfl hb) rfl).trans (shapeCast_1ab_ab_apply _ _ _ _)
  refine Set.ext fun t => ⟨?_, ?_⟩
  · rintro ⟨k, rfl⟩
    by_cases hk : k.val < 8
    · exact Or.inl ⟨⟨k.val, hk⟩, (hl ⟨k.val, hk⟩).symm⟩
    · refine Or.inr ⟨⟨k.val - 8, by omega⟩, (hh ⟨k.val - 8, by omega⟩).symm.trans ?_⟩
      exact congrArg (fun k => k0_pay9 (F := Ideal) a b (ix2 r k)) (Fin.ext (by show k.val - 8 + 8 = k.val; omega))
  · rintro (⟨j, rfl⟩ | ⟨j, rfl⟩)
    · exact ⟨⟨j.val, by omega⟩, hl j⟩
    · exact ⟨⟨j.val + 8, by omega⟩, hh j⟩

/-- THE MERGE: entry `j` of row `r` is rank `j` of both rows' candidates together. -/
theorem merge_apply (a b : FVec Ideal S1x256x8 .f32) (r : Fin 256) (j : Fin 8) :
    merge (F := Ideal) a b (ix2 r j)
      = rank ((Set.range fun j : Fin 8 => (a (ix3 0 r j) : EReal)) ∪ Set.range fun j : Fin 8 => (b (ix3 0 r j) : EReal)) j := by
  have e : merge (F := Ideal) a b = side (column reduces_S256x16_S256 broadcasts_S256x1_S256x16 (k0_pay9 a b))
      concatenates_S256x1_S256x1_S256x1_S256x1_S256x1_S256x1_S256x1_S256x1_S256x8_d1 := rfl
  rw [e, ← both_row]
  exact (side_apply _ _ _ _).trans (column_apply _ _ _ r j)

theorem row_finite {n : ℕ} (x : FVec Ideal ⟨2, ![256, n]⟩ .f32) (r : Fin 256) : (row x r).Finite := Set.finite_range _

/-- The candidates of a row are its first eight ranks. -/
theorem pick_row (x : FVec Ideal S256x1024 .f32) (r : Fin 256) : (Set.range fun j : Fin 8 => (pick (F := Ideal) x (ix3 0 r j) : EReal)) = firsts 8 (row x r) := by
  refine Set.ext fun t => ⟨?_, ?_⟩
  · rintro ⟨j, rfl⟩; exact ⟨j.val, j.isLt, (pick_apply x r j).symm⟩
  · rintro ⟨i, hi, rfl⟩; exact ⟨⟨i, hi⟩, pick_apply x r ⟨i, hi⟩⟩

/-- THE KERNEL'S VALUE: merging the selections from two blocks of columns gives, at entry `j` of row `r`, rank `j` of all
    the values of that row in both blocks. -/
theorem merged_apply (x y : FVec Ideal S256x1024 .f32) (r : Fin 256) (j : Fin 8) :
    merge (F := Ideal) (pick (F := Ideal) x) (pick (F := Ideal) y) (ix2 r j) = rank (row x r ∪ row y r) j := by
  rw [merge_apply, pick_row, pick_row]
  exact rank_firsts_union (row_finite x r) (row_finite y r) j.val j.isLt

end Cert.Selected

end
-- ==== Proof.Whole.lean ====
/-
The two devices of a pair hold the two halves of every row, so the kernel's result on a device is the ranks of the whole rows.
-/
module

public import proofs.«01_k».proof.Proof.Run
public import proofs.«01_k».proof.Proof.Selected
public import Idealize.ShloMosaic.Lib.Layout

@[expose] public section

noncomputable section

namespace Cert.Whole

open Cert.KernelIdeal Cert.KernelIdeal.Gen Cert.Exchange Cert.Ranks Cert.Selected
open Idealize.ShloMosaic Idealize.ShloMosaic.ValueIdx

/-- The half of the columns that device `c` holds of a whole array. -/
abbrev half (x : FVec Ideal ⟨2, ![256, 2048]⟩ .f32) (c : Dev nD) : FVec Ideal ⟨2, ![256, 1024]⟩ .f32 :=
  Layout.blockN ⟨2, ![256, 1024]⟩ ⟨2, ![256, 2048]⟩ (Layout.meshBlock [2, 2] ![[], [0]] c) x

/-- Column `k` of device `c`'s half is the whole array's column `1024 · (c / 2) + k`. -/
theorem half_apply (x : FVec Ideal ⟨2, ![256, 2048]⟩ .f32) (c : Dev nD) (r : Fin 256) (k : Fin 1024) (k' : Fin 2048)
    (hk : k'.val = c.val / 2 * 1024 + k.val) : half x c (ix2 r k) = x (ix2 r k') := by
  refine congrArg x (funext fun b => Fin.ext ?_)
  rw [Layout.TilesN.idx_val]
  match b with
  | ⟨0, _⟩ => exact (congrArg (· + r.val) (Nat.zero_mul 256)).trans (Nat.zero_add _)
  | ⟨1, _⟩ =>
    refine Eq.trans ?_ hk.symm
    have hc : c.val < 4 := c.isLt
    show ((c.val / 2) % 2 * 1 + 0) * 1024 + k.val = c.val / 2 * 1024 + k.val
    omega

/-- The halves of a device and its peer make up every row. -/
theorem row_halves (x : FVec Ideal ⟨2, ![256, 2048]⟩ .f32) (c : Dev nD) (r : Fin 256) :
    row (half x c) r ∪ row (half x (peer c)) r = row x r := by
  have hc : c.val < 4 := c.isLt
  have hp : (peer c).val = (c.val + 2) % 4 := rfl
  refine Set.ext fun t => ⟨?_, ?_⟩
  · have hin : ∀ d : Dev nD, t ∈ row (half x d) r → t ∈ row x r := by
      rintro d ⟨k, rfl⟩
      have hd : d.val < 4 := d.isLt
      exact ⟨⟨d.val / 2 * 1024 + k.val, by omega⟩, (half_apply x d r k _ rfl).symm⟩
    exact fun h => h.elim (hin _) (hin _)
  · rintro ⟨k, rfl⟩
    by_cases h : k.val / 1024 = c.val / 2
    · exact Or.inl ⟨⟨k.val % 1024, by omega⟩, half_apply x c r _ k (by dsimp only; omega)⟩
    · exact Or.inr ⟨⟨k.val % 1024, by omega⟩, half_apply x (peer c) r _ k (by dsimp only; omega)⟩

/-- THE KERNEL'S RESULT: from halves of `x`, every device's entry `j` of row `r` is rank `j` of the row of `x`. -/
theorem result_apply (m : (ℓ : Loc nD τ sig) → Buf (Elt Ideal) ℓ) (ρ : Dev nD → PrngReg) (x : FVec Ideal ⟨2, ![256, 2048]⟩ .f32)
    (hx : ∀ c : Dev nD, m ((c.tc : Thread nD τ).loc main_arg0) = half x c) (c : Dev nD) (r : Fin 256) (j : Fin 8) :
    result (F := Ideal) m ρ c (ix2 r j) = rank (row x r) j := by
  have h : ∀ d : Dev nD, block (F := Ideal) m ρ d = half x d := fun d => (block_eq m ρ d).trans (hx d)
  unfold result
  rw [h, h]
  exact (merged_apply (half x c) (half x (peer c)) r j).trans (by rw [row_halves])

end Cert.Whole

end
-- ==== Proof.Sorted.lean ====
/-
What the reference computes over the extended reals: `argsort` of the negated row orders its positions so that the values
descend, and `take_along_axis` reads the first eight.
-/
module

public import proofs.«01_k».proof.Proof.Selected
public import proofs.«01_k».proof.Proof.Gen.ReferenceIdeal.Run
public import proofs.«01_k».proof.Proof.Gen.On_untied
public import Idealize.ShloMosaic.Lib.SortFacts
public import Idealize.ShloMosaic.Lib.IdealHost
public import Idealize.ShloMosaic.Lib.WordCmp
public import Idealize.ShloMosaic.Lib.Affine

@[expose] public section

noncomputable section

namespace Cert.Sorted

open Cert.ReferenceIdeal Cert.ReferenceIdeal.Gen Cert.Ranks Cert.Selected
open Cert.On_untied (S256x1)
open Idealize.ShloMosaic Idealize.ShloMosaic.ValueIdx Idealize.ShloMosaic.WordCmp

/-! ## The order of a row's positions -/

/-- Position `k` comes strictly before `k'` when its value is greater. -/
def ahead {n : ℕ} (v : Fin n → EReal) (k k' : Fin n) : Bool := decide (-v k < -v k')

/-- The positions in descending order of value. -/
def order {n : ℕ} (v : Fin n → EReal) : Fin n → Fin n := sortedFrom (ahead v)

theorem order_anti {n : ℕ} (v : Fin n → EReal) : Antitone fun k => v (order v k) := by
  intro i j hij
  rcases hij.eq_or_lt with rfl | h
  · exact le_rfl
  · have := sortedFrom_noInversion (ahead v) (ahead v)
      (fun a b h => decide_eq_false (not_lt.mpr (of_decide_eq_true h).le)) (fun a b h => h)
      (fun a b c hab hbc => decide_eq_false (not_lt.mpr ((not_lt.mp (of_decide_eq_false hbc)).trans (not_lt.mp (of_decide_eq_false hab))))) i j h
    exact EReal.neg_le_neg_iff.mp (not_lt.mp (of_decide_eq_false this))

theorem order_range {n : ℕ} (v : Fin n → EReal) : (Set.range fun k => v (order v k)) = Set.range v :=
  (sortedFrom_surjective (ahead v)).range_comp v

/-- Where the ordered values strictly fall down to position `j`, the value there is the row's rank `j`. -/
theorem rank_order {n : ℕ} (v : Fin n → EReal) (j : ℕ) (hj : j < n)
    (h : ∀ i (hi : i < j), v (order v ⟨i + 1, by omega⟩) < v (order v ⟨i, by omega⟩)) : rank (Set.range v) j = v (order v ⟨j, hj⟩) := by
  rw [← order_range]; exact rank_range (order_anti v) j hj h

/-! ## The comparison -/

/-- A sort's comparator makes equal zeros and equal not-a-numbers of its operands, which are the same already. -/
theorem canonical (x : Ideal .f32) :
    Scalar.select (FloatOps.cmpf .une x x) (FloatOps.ofBits .f32 0x7FC00000#32)
      (Scalar.select (FloatOps.cmpf .oeq x (FloatOps.ofBits .f32 0x00000000#32)) (FloatOps.ofBits .f32 0x00000000#32) x) = x := by
  rw [Ideal.cmpf_def, Ideal.cmpf_def]
  have h1 : Ideal.cmp .une x x = 0#1 := by show BitVec.ofBool (decide (x ≠ x)) = _; simp
  rw [h1]
  show Scalar.select (BitVec.ofBool (decide (x = _))) _ x = x
  by_cases h : x = (FloatOps.ofBits .f32 0x00000000#32 : Ideal .f32)
  · rw [decide_eq_true h]; exact h.symm
  · rw [decide_eq_false h]; rfl

theorem compare_pair (a b : Ideal .f32) (i k : BitVec 32) :
    (comparator_f32_i32_d1 (F := Ideal) (a, i) (b, k) == 1#1) = decide ((a : EReal) < b) := by
  unfold comparator_f32_i32_d1
  dsimp only
  rw [canonical, canonical, Ideal.cmpfTotal_def]
  show (BitVec.ofBool (decide ((a : EReal) < b)) == 1#1) = _
  cases decide ((a : EReal) < b) <;> rfl

theorem compare_one (a b : Ideal .f32) : (Cert.On_untied.comparator_f32_d1 (F := Ideal) a b == 1#1) = decide ((a : EReal) < b) := by
  unfold Cert.On_untied.comparator_f32_d1
  dsimp only
  rw [canonical, canonical, Ideal.cmpfTotal_def]
  show (BitVec.ofBool (decide ((a : EReal) < b)) == 1#1) = _
  cases decide ((a : EReal) < b) <;> rfl

/-! ## The two sorts -/

/-- The values of row `r`, by position. -/
abbrev line (x : FVec Ideal S256x2048 .f32) (r : Fin 256) : Fin 2048 → EReal := fun k => x (ix2 r k)

theorem along_eq (r : Fin 256) (j k : Fin 2048) : (ix2 r j : S256x2048.Idx).along 1 k = ix2 r k := funext fun a => by
  match a with
  | ⟨0, _⟩ => rfl
  | ⟨1, _⟩ => rfl

/-- `argsort` of the negated array: position `j` of row `r` holds the row's `j`-th position in descending order. -/
theorem argsort_apply (x : FVec Ideal S256x2048 .f32) (r : Fin 256) (j : Fin 2048) :
    (Host.sort2 S256x2048 1 (comparator_f32_i32_d1 (F := Ideal)) (Host.negf x) (iotaInDim S256x2048 32 1)).2 (ix2 r j)
      = BitVec.ofNat 32 (order (line x r) j).val := by
  unfold Host.sort2
  rw [dif_pos (show 1 < S256x2048.rank by decide)]
  have hB : (fun k k' : Fin 2048 => comparator_f32_i32_d1 (F := Ideal)
      (Host.negf (F := Ideal) x ((ix2 r j : S256x2048.Idx).along 1 k), iotaInDim S256x2048 32 1 ((ix2 r j : S256x2048.Idx).along 1 k))
      (Host.negf (F := Ideal) x ((ix2 r j : S256x2048.Idx).along 1 k'), iotaInDim S256x2048 32 1 ((ix2 r j : S256x2048.Idx).along 1 k')) == 1#1)
      = ahead (line x r) := funext fun k => funext fun k' => by
    rw [compare_pair, along_eq, along_eq]; rfl
  refine (congrArg (fun B => iotaInDim S256x2048 32 1 ((ix2 r j : S256x2048.Idx).along 1 (sortedFrom B j))) hB).trans ?_
  have hi : ∀ k : Fin 2048, iotaInDim S256x2048 32 1 (ix2 r k) = BitVec.ofNat 32 k.val := fun k => rfl
  exact (congrArg (iotaInDim S256x2048 32 1) (along_eq r j (order (line x r) j))).trans (hi _)

/-- The negated sort of the negated array: position `j` of row `r` holds the row's `j`-th value in descending order. -/
theorem sort_apply (x : FVec Ideal S256x2048 .f32) (r : Fin 256) (j : Fin 2048) :
    Cert.On_untied.fn_sort (F := Ideal) (Host.negf x) (ix2 r j) = -line x r (order (line x r) j) := by
  unfold Cert.On_untied.fn_sort Host.sort
  dsimp only
  rw [dif_pos (show 1 < S256x2048.rank by decide)]
  have hB : (fun k k' : Fin 2048 => Cert.On_untied.comparator_f32_d1 (F := Ideal)
      (Host.negf (F := Ideal) x ((ix2 r j : S256x2048.Idx).along 1 k)) (Host.negf (F := Ideal) x ((ix2 r j : S256x2048.Idx).along 1 k')) == 1#1)
      = ahead (line x r) := funext fun k => funext fun k' => by
    rw [compare_one, along_eq, along_eq]; rfl
  refine (congrArg (fun B => Host.negf (F := Ideal) x ((ix2 r j : S256x2048.Idx).along 1 (sortedFrom B j))) hB).trans ?_
  exact congrArg (Host.negf (F := Ideal) x) (along_eq r j (order (line x r) j))

/-! ## Taking along the axis -/

/-- The place of the one start index that entry `y` of the gather reads. -/
abbrev startAt (y : S256x8.Idx) : S256x8x1.Idx := ix3 (y 0) (y 1) (0 : Fin 1)

/-- The gather reads, at entry `y`, the operand's row `y 0` at its start index, one inside the row. -/
theorem gather_apply (x : FVec Ideal S256x2048 .f32) (p : IVec S256x8x1 32) (y : S256x8.Idx) (k : Fin 2048)
    (hk : p (startAt y) = BitVec.ofNat 32 k.val) :
    Host.gather gather_S256x2048_S256x8x1_S256x8_n_1_0_0_1_2_11 x p y = x (ix2 (y 0) k) := by
  unfold Host.gather
  congr 1
  funext a
  refine Fin.ext ?_
  show gather_S256x2048_S256x8x1_S256x8_n_1_0_0_1_2_11.start y p a + gather_S256x2048_S256x8x1_S256x8_n_1_0_0_1_2_11.batchCoord y a
      + gather_S256x2048_S256x8x1_S256x8_n_1_0_0_1_2_11.offCoord y a = _
  rw [GatherDims.offCoord_eq_zero _ _ _ (by revert a; decide), Nat.add_zero]
  match a with
  | ⟨0, _⟩ =>
    rw [GatherDims.start_batching _ _ _ _ (List.mem_singleton.mpr rfl), Nat.zero_add]
    unfold GatherDims.batchCoord
    exact (dif_pos (List.mem_singleton.mpr rfl)).trans rfl
  | ⟨1, _⟩ =>
    rw [GatherDims.batchCoord_eq_zero _ _ _ (show (1 : Fin 2) ∉ [(0 : Fin 2)] by decide), Nat.add_zero]
    unfold GatherDims.start
    refine (dif_pos (List.mem_singleton.mpr rfl)).trans ?_
    refine (congrArg (fun i => min (p i).toInt.toNat 2047) (a₂ := startAt y) (funext fun b => Fin.ext ?_)).trans ?_
    rotate_left
    · dsimp only
      rw [hk, toInt_ofNat_of_lt (by omega)]
      show min k.val 2047 = k.val
      omega
    match b with
    | ⟨0, _⟩ => rfl
    | ⟨1, _⟩ => rfl
    | ⟨2, _⟩ => rfl

/-- A conjunction over an axis of nothing but ones is one. -/
theorem all_ones (b : IVec S256x8x1 1) (hb : ∀ i, b i = 1#1) (y : S256x8.Idx) :
    Host.reduce IntOp.andi b (constantI S_ 1 1#1) reducesTo_S256x8x1_S256x8_d2 h_S_ y = 1#1 := by
  unfold Host.reduce
  generalize ((List.finRange S256x8x1.numel).filter fun n => reducesTo_S256x8x1_S256x8_d2.drop (S256x8x1.rowMajor.symm n) = y) = l
  show l.foldl _ 1#1 = 1#1
  induction l with
  | nil => rfl
  | cons n l ih => rw [List.foldl_cons, hb]; exact ih

/-- `take_along_axis` of row positions: negative ones count from the end, and an entry whose position lies outside the row
    is not a number. -/
def takeAlong (x : FVec Ideal S256x2048 .f32) (p : IVec S256x8 32) : FVec Ideal S256x8 .f32 :=
  let q := shapeCast S256x8x1 (select (cmpi .slt p (broadcastInDim S256x8 ![] bcast_S_S256x8 (constantI S_ 32 0#32)))
    (addi p (broadcastInDim S256x8 ![] bcast_S_S256x8 (constantI S_ 32 2048#32))) p) shapeCasts_S256x8_S256x8x1
  select (Host.reduce IntOp.andi (andi (cmpi .sge q (broadcastInDim S256x8x1 ![] bcast_S_S256x8x1 (constantI S_ 32 0#32)))
      (cmpi .sle q (broadcastInDim S256x8x1 ![0, 1, 2] bcast_S1x1x1_S256x8x1_0_1_2 (broadcastInDim S1x1x1 ![2] bcast_S1_S1x1x1_2 (constantI S1 32 2047#32)))))
      (constantI S_ 1 1#1) reducesTo_S256x8x1_S256x8_d2 h_S_)
    (Host.gather gather_S256x2048_S256x8x1_S256x8_n_1_0_0_1_2_11 x q)
    (broadcastInDim S256x8 ![] bcast_S_S256x8 (constant S_ .f32 0x7FC00000#32))

/-- At positions inside the row it reads the row there. -/
theorem takeAlong_apply (x : FVec Ideal S256x2048 .f32) (p : IVec S256x8 32) (k : S256x8.Idx → Fin 2048)
    (hp : ∀ i, p i = BitVec.ofNat 32 (k i).val) (i : S256x8.Idx) : takeAlong x p i = x (ix2 (i 0) (k i)) := by
  have hw : (select (cmpi .slt p (broadcastInDim S256x8 ![] bcast_S_S256x8 (constantI S_ 32 0#32)))
      (addi p (broadcastInDim S256x8 ![] bcast_S_S256x8 (constantI S_ 32 2048#32))) p) = p := funext fun i => by
    show Scalar.select (IntOp.cmpi .slt (p i) (BitVec.ofNat 32 0)) _ (p i) = p i
    rw [hp, cmpi_slt_ofNat (by have := (k i).isLt; omega) (by decide), decide_eq_false (by omega)]; rfl
  unfold takeAlong
  rw [hw]
  dsimp only
  have hq : ∀ (i : S256x8x1.Idx) (y : S256x8.Idx) (h0 : (y 0).val = (i 0).val) (h1 : (y 1).val = (i 1).val),
      shapeCast S256x8x1 p shapeCasts_S256x8_S256x8x1 i = BitVec.ofNat 32 (k y).val := fun i y h0 h1 =>
    (shapeCast_apply p shapeCasts_S256x8_S256x8x1 i y (by
      rw [Shape.rowMajor_val_two, Shape.rowMajor_val_three, h0, h1]
      have : (i 2).val < 1 := (i 2).isLt
      show (i 0).val * 8 + (i 1).val = ((i 0).val * 8 + (i 1).val) * 1 + (i 2).val
      omega)).trans (hp y)
  have hg := gather_apply x (shapeCast S256x8x1 p shapeCasts_S256x8_S256x8x1) i (k i) (hq _ i rfl rfl)
  show Scalar.select (Host.reduce _ _ _ _ _ i) (Host.gather _ _ _ i) _ = _
  rw [hg, all_ones _ fun i => ?_]
  · rfl
  · show IntOp.andi (IntOp.cmpi .sge (shapeCast S256x8x1 p shapeCasts_S256x8_S256x8x1 i) (BitVec.ofNat 32 0))
      (IntOp.cmpi .sle (shapeCast S256x8x1 p shapeCasts_S256x8_S256x8x1 i) (BitVec.ofNat 32 2047)) = 1#1
    have hk := (k (ix2 (i 0) (i 1))).isLt
    rw [hq i (ix2 (i 0) (i 1)) rfl rfl, cmpi_sge_ofNat (by omega) (by decide), cmpi_sle_ofNat (by omega) (by decide), decide_eq_true (by omega),
      decide_eq_true (by omega)]
    rfl

/-! ## The reference's result and the mask -/

/-- What the reference computes. -/
def topk (x : FVec Ideal S256x2048 .f32) : FVec Ideal S256x8 .f32 :=
  takeAlong x (extractStridedSlice S256x8 ![0, 0]
    (Host.sort2 S256x2048 1 (comparator_f32_i32_d1 (F := Ideal)) (Host.negf x) (iotaInDim S256x2048 32 1)).2 slices_S256x2048_S256x8_0_0)

/-- One of the first eight places of a row. -/
abbrev place (j : Fin 8) : Fin 2048 := ⟨j.val, by omega⟩

/-- Entry `j` of row `r` is the row's value at place `j` of the descending order. -/
theorem topk_apply (x : FVec Ideal S256x2048 .f32) (r : Fin 256) (j : Fin 8) :
    topk x (ix2 r j) = line x r (order (line x r) (place j)) :=
  takeAlong_apply x _ (fun i => order (line x (i 0)) (place (i 1))) (fun i => by
    rw [ValueIdx.eq_ix2 i]
    exact (slice2_axis1_apply 0 _ slices_S256x2048_S256x8_0_0 _ _ (place (i 1)) (Nat.zero_add _).symm).trans (argsort_apply x _ _)) (ix2 r j)

/-- The mask's columns of ones and zeros over columns `v` of values: column `j` has a one where the values of columns `0` to
    `j` strictly fall. -/
def flags (v : ℕ → FVec Ideal S256x1 .f32) : ℕ → IVec S256x1 1
  | 0 => cmpf .oeq (v 0) (v 0)
  | j + 1 => andi (flags v j) (cmpf .olt (v (j + 1)) (v j))

theorem flags_fall (v : ℕ → FVec Ideal S256x1 .f32) (r : Fin 256) : ∀ j, flags v j (ix2 r 0) = 1#1 →
    ∀ i < j, (v (i + 1) (ix2 r 0) : EReal) < v i (ix2 r 0)
  | 0, _, i, hi => absurd hi (Nat.not_lt_zero i)
  | j + 1, h, i, hi => by
    obtain ⟨h1, h2⟩ := IntOp.andi_eq_one.mp (show IntOp.andi (flags v j (ix2 r 0)) (BitVec.ofBool (decide ((v (j + 1) (ix2 r 0) : EReal) < v j (ix2 r 0)))) = 1#1 from h)
    rcases Nat.lt_succ_iff_lt_or_eq.mp hi with h' | rfl
    · exact flags_fall v r j h1 i h'
    · by_contra hn
      rw [decide_eq_false hn] at h2
      exact absurd h2 (by decide)

/-- The mask's eight largest values of each row. -/
def tops (x : FVec Ideal S256x2048 .f32) : FVec Ideal S256x8 .f32 :=
  Host.negf (extractStridedSlice S256x8 ![0, 0] (Cert.On_untied.fn_sort (F := Ideal) (Host.negf x)) Cert.On_untied.Gen.slices_S256x2048_S256x8_0_0)

theorem tops_apply (x : FVec Ideal S256x2048 .f32) (r : Fin 256) (j : Fin 8) :
    tops x (ix2 r j) = line x r (order (line x r) (place j)) := by
  show -(extractStridedSlice S256x8 ![0, 0] (Cert.On_untied.fn_sort (F := Ideal) (Host.negf x)) _ (ix2 r j) : EReal) = _
  rw [slice2_axis1_apply 0 _ _ r j (place j) (Nat.zero_add _).symm, sort_apply]
  exact neg_neg _

/-- Their columns, one at a time. -/
def topsColumn (x : FVec Ideal S256x2048 .f32) : ℕ → FVec Ideal S256x1 .f32
  | 0 => extractStridedSlice S256x1 ![0, 0] (tops x) Cert.On_untied.Gen.slices_S256x8_S256x1_0_0
  | 1 => extractStridedSlice S256x1 ![0, 1] (tops x) Cert.On_untied.Gen.slices_S256x8_S256x1_0_1
  | 2 => extractStridedSlice S256x1 ![0, 2] (tops x) Cert.On_untied.Gen.slices_S256x8_S256x1_0_2
  | 3 => extractStridedSlice S256x1 ![0, 3] (tops x) Cert.On_untied.Gen.slices_S256x8_S256x1_0_3
  | 4 => extractStridedSlice S256x1 ![0, 4] (tops x) Cert.On_untied.Gen.slices_S256x8_S256x1_0_4
  | 5 => extractStridedSlice S256x1 ![0, 5] (tops x) Cert.On_untied.Gen.slices_S256x8_S256x1_0_5
  | 6 => extractStridedSlice S256x1 ![0, 6] (tops x) Cert.On_untied.Gen.slices_S256x8_S256x1_0_6
  | _ => extractStridedSlice S256x1 ![0, 7] (tops x) Cert.On_untied.Gen.slices_S256x8_S256x1_0_7

theorem topsColumn_apply (x : FVec Ideal S256x2048 .f32) (r : Fin 256) : ∀ j : Fin 8, topsColumn x j.val (ix2 r 0) = tops x (ix2 r j)
  | ⟨0, _⟩ => slice2_axis1_apply 0 (tops x) Cert.On_untied.Gen.slices_S256x8_S256x1_0_0 r (0 : Fin 1) (0 : Fin 8) rfl
  | ⟨1, _⟩ => slice2_axis1_apply 1 (tops x) Cert.On_untied.Gen.slices_S256x8_S256x1_0_1 r (0 : Fin 1) (1 : Fin 8) rfl
  | ⟨2, _⟩ => slice2_axis1_apply 2 (tops x) Cert.On_untied.Gen.slices_S256x8_S256x1_0_2 r (0 : Fin 1) (2 : Fin 8) rfl
  | ⟨3, _⟩ => slice2_axis1_apply 3 (tops x) Cert.On_untied.Gen.slices_S256x8_S256x1_0_3 r (0 : Fin 1) (3 : Fin 8) rfl
  | ⟨4, _⟩ => slice2_axis1_apply 4 (tops x) Cert.On_untied.Gen.slices_S256x8_S256x1_0_4 r (0 : Fin 1) (4 : Fin 8) rfl
  | ⟨5, _⟩ => slice2_axis1_apply 5 (tops x) Cert.On_untied.Gen.slices_S256x8_S256x1_0_5 r (0 : Fin 1) (5 : Fin 8) rfl
  | ⟨6, _⟩ => slice2_axis1_apply 6 (tops x) Cert.On_untied.Gen.slices_S256x8_S256x1_0_6 r (0 : Fin 1) (6 : Fin 8) rfl
  | ⟨7, _⟩ => slice2_axis1_apply 7 (tops x) Cert.On_untied.Gen.slices_S256x8_S256x1_0_7 r (0 : Fin 1) (7 : Fin 8) rfl

/-- The mask is its columns of ones and zeros side by side. -/
theorem mask_apply (x : FVec Ideal S256x2048 .f32) (r : Fin 256) (j : Fin 8) :
    Cert.On_untied.fn (F := Ideal) x (ix2 r j) = flags (topsColumn x) j.val (ix2 r 0) :=
  columns_apply (fun j : Fin 8 => flags (topsColumn x) j.val)
    Cert.On_untied.Gen.concatenates_S256x1_S256x1_S256x1_S256x1_S256x1_S256x1_S256x1_S256x1_S256x8_d1 r j

/-- THE REFERENCE'S VALUE: at an entry the mask selects, it is rank `j` of the row. -/
theorem topk_rank (x : FVec Ideal S256x2048 .f32) (r : Fin 256) (j : Fin 8) (h : Cert.On_untied.fn (F := Ideal) x (ix2 r j) = 1#1) :
    topk x (ix2 r j) = rank (row x r) j := by
  rw [topk_apply]
  rw [mask_apply] at h
  refine (rank_order (line x r) j.val (by omega) fun i hi => ?_).symm
  have hf := flags_fall _ r j.val h i hi
  have h1 := topsColumn_apply x r ⟨i + 1, by omega⟩
  have h0 := topsColumn_apply x r ⟨i, by omega⟩
  rw [tops_apply] at h1 h0
  dsimp only at h1 h0
  rw [h1, h0] at hf
  exact hf

end Cert.Sorted

end
-- ==== Proof.lean ====
/-
The five claims about the row-wise selection of eight largest entries on a 2×2 mesh: the kernel runs, over floats and over
the extended reals; the reference runs; the two kernel programs are one text; and kernel and reference agree at every entry
down to which a row's largest values strictly fall.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_untied
public import proofs.«01_k».proof.Proof.Run
public import proofs.«01_k».proof.Proof.Whole
public import proofs.«01_k».proof.Proof.Sorted
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two programs' kernel tables are the same functions, -/
theorem bodies_eq : @Cert.Kernel.defs₀ Bits _ Cert.Kernel.Gen.facts = @Cert.KernelIdeal.defs₀ Bits _ Cert.KernelIdeal.Gen.facts :=
  congrArg Defs.onTc (funext fun l => funext fun a => by
    match l, a with
    | 0, (t, s) => rfl)

/-- and so are their launches. -/
theorem defs_eq : @Cert.Kernel.defs Bits _ Cert.Kernel.Gen.facts = @Cert.KernelIdeal.defs Bits _ Cert.KernelIdeal.Gen.facts :=
  congrArg (Pipeline.defs Cert.KernelIdeal.pcfgs) bodies_eq

/-- The kernel runs over the device's floats: its argument is unchanged and every semaphore ends at zero. -/
theorem frame_kernel : Cert.quiescent_Kernel := fun m ρ _ =>
  (congrArg (fun d => θ_run d (onTc (main (F := Bits))) ⟨m, fun _ => 0, ρ⟩ fun r => (∀ c : Dev nD,
    r.2.mem ((c.tc : Thread nD τ).loc main_arg0) = m ((c.tc : Thread nD τ).loc main_arg0)) ∧ r.2.sem = fun _ => 0) defs_eq).mpr
    (Cert.Exchange.run_quiet (F := Bits) m ρ)

/-- The same over the extended reals. -/
theorem frame_kernelIdeal : Cert.quiescent_KernelIdeal := fun m ρ _ => Cert.Exchange.run_quiet (F := Ideal) m ρ

/-- The reference runs, with no semaphore to move. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

open Idealize.ShloMosaic.ValueIdx in
/-- Where a row's largest values strictly fall down to entry `j`, every device's entry `j` of that row is the reference's. -/
theorem value : Cert.algebraic_KernelIdeal_ReferenceIdeal_on_untied := fun m ρ m' ρ' _ hx =>
  ⟨Cert.Sorted.topk (m' (((0 : Dev Cert.ReferenceIdeal.nD).tc : Thread Cert.ReferenceIdeal.nD Cert.ReferenceIdeal.τ).loc Cert.ReferenceIdeal.main_arg0)),
    (θ_run Cert.KernelIdeal.defs _ _).mono (fun r h c => ⟨fun i hi => by
        rw [(h.1 c).1]
        rw [eq_ix2 i] at hi ⊢
        exact (Cert.Whole.result_apply m ρ _ hx c _ _).trans (Cert.Sorted.topk_rank _ _ _ hi).symm, (h.1 c).2⟩)
      (Cert.Exchange.run_main (F := Ideal) m ρ),
    (θ_run Cert.ReferenceIdeal.defs _ _).mono (fun r h => ⟨fun i _ => congrFun (h 0).1 i, (h 0).2⟩)
      (Cert.ReferenceIdeal.Value.run (F := Ideal) m' ρ')⟩

/-- All five claims. -/
theorem claim : Cert.Claim := ⟨Cert.Kernel.Gen.facts, Cert.KernelIdeal.Gen.facts, Cert.ReferenceIdeal.Gen.facts, Cert.On_untied.Gen.facts,
  frame_kernel, frame_kernelIdeal, frame_reference, trivial, value⟩

end Cert.Proof

end
